-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S100000x2 : Shape := ⟨2, ![100000, 2]⟩
abbrev S100000x3 : Shape := ⟨2, ![100000, 3]⟩
abbrev S200x4 : Shape := ⟨2, ![200, 4]⟩
abbrev S_ : Shape := ⟨0, ![]⟩
abbrev S100000x1 : Shape := ⟨2, ![100000, 1]⟩
abbrev S200x2 : Shape := ⟨2, ![200, 2]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  slices_S100000x3_S100000x2_0_0 : S100000x3.Slices ![0, 0] S100000x2
  slices_S100000x3_S100000x1_0_2 : S100000x3.Slices ![0, 2] S100000x1
  bcast_S_S100000x1 : S_.BroadcastsInDim S100000x1 (![] : Fin 0 → Fin S100000x1.rank)
  reducesTo_S100000x1_S_d0_1 : S100000x1.ReducesTo [0, 1] S_
  slices_S200x4_S200x2_0_0 : S200x4.Slices ![0, 0] S200x2
  bcast_S_S200x2 : S_.BroadcastsInDim S200x2 (![] : Fin 0 → Fin S200x2.rank)
  reducesTo_S200x2_S_d0_1 : S200x2.ReducesTo [0, 1] S_
  slices_S200x4_S200x2_0_2 : S200x4.Slices ![0, 2] S200x2

variable [Facts]

def fn_part2 {F : FTy → Type} [FloatOps F] (main_arg2 : FVec F S200x4 .f32) (main_v32 : IVec S_ 1) (main_v33 : FVec F S200x2 .f32) (main_v34 : FVec F S200x2 .f32) : IVec S_ 1 :=
  let main_v35 : IVec S200x2 1 := cmpf .oge main_v33 main_v34
  let main_v36 : FVec F S200x2 .f32 := (extractStridedSlice S200x2 ![0, 2] · slices_S200x4_S200x2_0_2) main_arg2
  let main_cst_11 : FVec F S_ .f32 := constant S_ .f32 0x3F800000#32
  let main_v37 : FVec F S200x2 .f32 := broadcastInDim S200x2 ![] bcast_S_S200x2 main_cst_11
  let main_v38 : IVec S200x2 1 := cmpf .ole main_v36 main_v37
  let main_v39 : IVec S200x2 1 := andi main_v35 main_v38
  let main_c_12 : IVec S_ 1 := constantI S_ 1 1#1
  let main_v40 : IVec S_ 1 := (fun x v => Host.reduce IntOp.andi x v reducesTo_S200x2_S_d0_1 h_S_) main_v39 main_c_12
  let main_v41 : IVec S_ 1 := andi main_v32 main_v40
  main_v41

def fn_part1 {F : FTy → Type} [FloatOps F] (main_arg1 : FVec F S100000x3 .f32) (main_arg2 : FVec F S200x4 .f32) (main_v14 : IVec S_ 1) (main_v15 : FVec F S100000x1 .f32) (main_v16 : FVec F S100000x1 .f32) : IVec S_ 1 :=
  let main_v17 : IVec S100000x1 1 := cmpf .oge main_v15 main_v16
  let main_v18 : FVec F S100000x1 .f32 := (extractStridedSlice S100000x1 ![0, 2] · slices_S100000x3_S100000x1_0_2) main_arg1
  let main_cst_5 : FVec F S_ .f32 := constant S_ .f32 0x40000000#32
  let main_v19 : FVec F S100000x1 .f32 := broadcastInDim S100000x1 ![] bcast_S_S100000x1 main_cst_5
  let main_v20 : IVec S100000x1 1 := cmpf .ole main_v18 main_v19
  let main_v21 : IVec S100000x1 1 := andi main_v17 main_v20
  let main_c_6 : IVec S_ 1 := constantI S_ 1 1#1
  let main_v22 : IVec S_ 1 := (fun x v => Host.reduce IntOp.andi x v reducesTo_S100000x1_S_d0_1 h_S_) main_v21 main_c_6
  let main_v23 : IVec S_ 1 := andi main_v14 main_v22
  let main_v24 : FVec F S200x2 .f32 := (extractStridedSlice S200x2 ![0, 0] · slices_S200x4_S200x2_0_0) main_arg2
  let main_cst_7 : FVec F S_ .f32 := constant S_ .f32 0x00000000#32
  let main_v25 : FVec F S200x2 .f32 := broadcastInDim S200x2 ![] bcast_S_S200x2 main_cst_7
  let main_v26 : IVec S200x2 1 := cmpf .oge main_v24 main_v25
  let main_v27 : FVec F S200x2 .f32 := (extractStridedSlice S200x2 ![0, 0] · slices_S200x4_S200x2_0_0) main_arg2
  let main_cst_8 : FVec F S_ .f32 := constant S_ .f32 0x3DCCCCCD#32
  let main_v28 : FVec F S200x2 .f32 := broadcastInDim S200x2 ![] bcast_S_S200x2 main_cst_8
  let main_v29 : IVec S200x2 1 := cmpf .ole main_v27 main_v28
  let main_v30 : IVec S200x2 1 := andi main_v26 main_v29
  let main_c_9 : IVec S_ 1 := constantI S_ 1 1#1
  let main_v31 : IVec S_ 1 := (fun x v => Host.reduce IntOp.andi x v reducesTo_S200x2_S_d0_1 h_S_) main_v30 main_c_9
  let main_v32 : IVec S_ 1 := andi main_v23 main_v31
  let main_v33 : FVec F S200x2 .f32 := (extractStridedSlice S200x2 ![0, 2] · slices_S200x4_S200x2_0_2) main_arg2
  let main_cst_10 : FVec F S_ .f32 := constant S_ .f32 0x3F666666#32
  let main_v34 : FVec F S200x2 .f32 := broadcastInDim S200x2 ![] bcast_S_S200x2 main_cst_10
  fn_part2 (F := F) main_arg2 main_v32 main_v33 main_v34

def fn {F : FTy → Type} [FloatOps F] (main_arg0 : FVec F S100000x2 .f32) (main_arg1 : FVec F S100000x3 .f32) (main_arg2 : FVec F S200x4 .f32) : IVec S_ 1 :=
  let main_cst : FVec F S_ .f32 := constant S_ .f32 0x00000000#32
  let main_v0 : FVec F S100000x2 .f32 := broadcastInDim S100000x2 ![] bcast_S_S100000x2 main_cst
  let main_v1 : IVec S100000x2 1 := cmpf .oge main_arg0 main_v0
  let main_cst_0 : FVec F S_ .f32 := constant S_ .f32 0x3F800000#32
  let main_v2 : FVec F S100000x2 .f32 := broadcastInDim S100000x2 ![] bcast_S_S100000x2 main_cst_0
  let main_v3 : IVec S100000x2 1 := cmpf .ole main_arg0 main_v2
  let main_v4 : IVec S100000x2 1 := andi main_v1 main_v3
  let main_c : IVec S_ 1 := constantI S_ 1 1#1
  let main_v5 : IVec S_ 1 := (fun x v => Host.reduce IntOp.andi x v reducesTo_S100000x2_S_d0_1 h_S_) main_v4 main_c
  let main_v6 : FVec F S100000x2 .f32 := (extractStridedSlice S100000x2 ![0, 0] · slices_S100000x3_S100000x2_0_0) main_arg1
  let main_cst_1 : FVec F S_ .f32 := constant S_ .f32 0x3D4CCCCD#32
  let main_v7 : FVec F S100000x2 .f32 := broadcastInDim S100000x2 ![] bcast_S_S100000x2 main_cst_1
  let main_v8 : IVec S100000x2 1 := cmpf .oge main_v6 main_v7
  let main_v9 : FVec F S100000x2 .f32 := (extractStridedSlice S100000x2 ![0, 0] · slices_S100000x3_S100000x2_0_0) main_arg1
  let main_cst_2 : FVec F S_ .f32 := constant S_ .f32 0x3E800000#32
  let main_v10 : FVec F S100000x2 .f32 := broadcastInDim S100000x2 ![] bcast_S_S100000x2 main_cst_2
  let main_v11 : IVec S100000x2 1 := cmpf .ole main_v9 main_v10
  let main_v12 : IVec S100000x2 1 := andi main_v8 main_v11
  let main_c_3 : IVec S_ 1 := constantI S_ 1 1#1
  let main_v13 : IVec S_ 1 := (fun x v => Host.reduce IntOp.andi x v reducesTo_S100000x2_S_d0_1 h_S_) main_v12 main_c_3
  let main_v14 : IVec S_ 1 := andi main_v5 main_v13
  let main_v15 : FVec F S100000x1 .f32 := (extractStridedSlice S100000x1 ![0, 2] · slices_S100000x3_S100000x1_0_2) main_arg1
  let main_cst_4 : FVec F S_ .f32 := constant S_ .f32 0xC0000000#32
  let main_v16 : FVec F S100000x1 .f32 := broadcastInDim S100000x1 ![] bcast_S_S100000x1 main_cst_4
  fn_part1 (F := F) main_arg1 main_arg2 main_v14 main_v15 main_v16
-- ==== Kernel.lean ====
abbrev S100000x2 : Shape := ⟨2, ![100000, 2]⟩
abbrev S100000x3 : Shape := ⟨2, ![100000, 3]⟩
abbrev S200x4 : Shape := ⟨2, ![200, 4]⟩
abbrev S100000x1 : Shape := ⟨2, ![100000, 1]⟩
abbrev S100000 : Shape := ⟨1, ![100000]⟩
abbrev S_ : Shape := ⟨0, ![]⟩
abbrev S106496 : Shape := ⟨1, ![106496]⟩
abbrev S1x106496 : Shape := ⟨2, ![1, 106496]⟩
abbrev S8x106496 : Shape := ⟨2, ![8, 106496]⟩
abbrev S1x1 : Shape := ⟨2, ![1, 1]⟩
abbrev S8x8192 : Shape := ⟨2, ![8, 8192]⟩
abbrev S200x1 : Shape := ⟨2, ![200, 1]⟩
abbrev S1x8192 : Shape := ⟨2, ![1, 8192]⟩
abbrev S200x8192 : Shape := ⟨2, ![200, 8192]⟩
abbrev S200 : Shape := ⟨1, ![200]⟩
abbrev S200x200 : Shape := ⟨2, ![200, 200]⟩
abbrev S1x200 : Shape := ⟨2, ![1, 200]⟩
abbrev S1x200x1 : Shape := ⟨3, ![1, 200, 1]⟩
abbrev S1 : Shape := ⟨1, ![1]⟩
abbrev S1x1x1 : Shape := ⟨3, ![1, 1, 1]⟩
abbrev S1x1x8192 : Shape := ⟨3, ![1, 1, 8192]⟩

abbrev nBuf : Space → Nat
  | .hbm => 41
  | .vmem => 8
  | .smem => 0
  | _ => 0

abbrev bufTy : (tb : Table) → Fin (tcTables nBuf tb) → BufTy
  | .hbm, ⟨0, _⟩ => ⟨S100000x2, .f32⟩
  | .hbm, ⟨1, _⟩ => ⟨S100000x3, .f32⟩
  | .hbm, ⟨2, _⟩ => ⟨S200x4, .f32⟩
  | .hbm, ⟨3, _⟩ => ⟨S100000x1, .f32⟩
  | .hbm, ⟨4, _⟩ => ⟨S100000, .f32⟩
  | .hbm, ⟨5, _⟩ => ⟨S100000x1, .f32⟩
  | .hbm, ⟨6, _⟩ => ⟨S100000, .f32⟩
  | .hbm, ⟨7, _⟩ => ⟨S100000x1, .f32⟩
  | .hbm, ⟨8, _⟩ => ⟨S100000, .f32⟩
  | .hbm, ⟨9, _⟩ => ⟨S100000x1, .f32⟩
  | .hbm, ⟨10, _⟩ => ⟨S100000, .f32⟩
  | .hbm, ⟨11, _⟩ => ⟨S100000x1, .f32⟩
  | .hbm, ⟨12, _⟩ => ⟨S100000, .f32⟩
  | .hbm, ⟨13, _⟩ => ⟨S_, .f32⟩
  | .hbm, ⟨14, _⟩ => ⟨S106496, .f32⟩
  | .hbm, ⟨15, _⟩ => ⟨S106496, .f32⟩
  | .hbm, ⟨16, _⟩ => ⟨S_, .f32⟩
  | .hbm, ⟨17, _⟩ => ⟨S_, .f32⟩
  | .hbm, ⟨18, _⟩ => ⟨S106496, .f32⟩
  | .hbm, ⟨19, _⟩ => ⟨S_, .f32⟩
  | .hbm, ⟨20, _⟩ => ⟨S_, .f32⟩
  | .hbm, ⟨21, _⟩ => ⟨S106496, .f32⟩
  | .hbm, ⟨22, _⟩ => ⟨S_, .f32⟩
  | .hbm, ⟨23, _⟩ => ⟨S_, .f32⟩
  | .hbm, ⟨24, _⟩ => ⟨S106496, .f32⟩
  | .hbm, ⟨25, _⟩ => ⟨S_, .f32⟩
  | .hbm, ⟨26, _⟩ => ⟨S_, .f32⟩
  | .hbm, ⟨27, _⟩ => ⟨S106496, .f32⟩
  | .hbm, ⟨28, _⟩ => ⟨S_, .f32⟩
  | .hbm, ⟨29, _⟩ => ⟨S_, .f32⟩
  | .hbm, ⟨30, _⟩ => ⟨S106496, .f32⟩
  | .hbm, ⟨31, _⟩ => ⟨S1x106496, .f32⟩
  | .hbm, ⟨32, _⟩ => ⟨S1x106496, .f32⟩
  | .hbm, ⟨33, _⟩ => ⟨S1x106496, .f32⟩
  | .hbm, ⟨34, _⟩ => ⟨S1x106496, .f32⟩
  | .hbm, ⟨35, _⟩ => ⟨S1x106496, .f32⟩
  | .hbm, ⟨36, _⟩ => ⟨S1x106496, .f32⟩
  | .hbm, ⟨37, _⟩ => ⟨S1x106496, .f32⟩
  | .hbm, ⟨38, _⟩ => ⟨S1x106496, .f32⟩
  | .hbm, ⟨39, _⟩ => ⟨S8x106496, .f32⟩
  | .hbm, ⟨40, _⟩ => ⟨S1x1, .f32⟩
  | .local _ .vmem, ⟨0, _⟩ => ⟨S8x8192, .f32⟩
  | .local _ .vmem, ⟨1, _⟩ => ⟨S8x8192, .f32⟩
  | .local _ .vmem, ⟨2, _⟩ => ⟨S200x4, .f32⟩
  | .local _ .vmem, ⟨3, _⟩ => ⟨S1x1, .f32⟩
  | .local _ .vmem, ⟨4, _⟩ => ⟨S200x1, .f32⟩
  | .local _ .vmem, ⟨5, _⟩ => ⟨S200x1, .i32⟩
  | .local _ .vmem, ⟨6, _⟩ => ⟨S200x1, .f32⟩
  | .local _ .vmem, ⟨7, _⟩ => ⟨S1x8192, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_call0_v0 : Ref sig .tc := ⟨.hbm, 17, rfl⟩
abbrev main_v12 : Ref sig .tc := ⟨.hbm, 18, rfl⟩
abbrev main_cst_1 : Ref sig .tc := ⟨.hbm, 19, rfl⟩
abbrev main_call1_v0 : Ref sig .tc := ⟨.hbm, 20, rfl⟩
abbrev main_v13 : Ref sig .tc := ⟨.hbm, 21, rfl⟩
abbrev main_cst_2 : Ref sig .tc := ⟨.hbm, 22, rfl⟩
abbrev main_call2_v0 : Ref sig .tc := ⟨.hbm, 23, rfl⟩
abbrev main_v14 : Ref sig .tc := ⟨.hbm, 24, rfl⟩
abbrev main_cst_3 : Ref sig .tc := ⟨.hbm, 25, rfl⟩
abbrev main_call3_v0 : Ref sig .tc := ⟨.hbm, 26, rfl⟩
abbrev main_v15 : Ref sig .tc := ⟨.hbm, 27, rfl⟩
abbrev main_cst_4 : Ref sig .tc := ⟨.hbm, 28, rfl⟩
abbrev main_call4_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![14], ![false]⟩

def k0_cond3 (i : grid0.Coords) : BitVec 1 :=
  let arg0 : BitVec 32 := BitVec.ofNat 32 (i 0).val
  let c13_i32_2 : BitVec 32 := 13#32
  let v6 : BitVec 1 := Scalar.cmpi .eq arg0 c13_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c12_i32 : BitVec 32 := 12#32
  let v0 : BitVec 32 := Scalar.minsi arg0 c12_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S100000x2 : Shape := ⟨2, ![100000, 2]⟩
abbrev S100000x3 : Shape := ⟨2, ![100000, 3]⟩
abbrev S200x4 : Shape := ⟨2, ![200, 4]⟩
abbrev S100000x1 : Shape := ⟨2, ![100000, 1]⟩
abbrev S100000 : Shape := ⟨1, ![100000]⟩
abbrev S_ : Shape := ⟨0, ![]⟩
abbrev S100000x4 : Shape := ⟨2, ![100000, 4]⟩
abbrev S200x2 : Shape := ⟨2, ![200, 2]⟩
abbrev S200x1x2 : Shape := ⟨3, ![200, 1, 2]⟩
abbrev S1x100000x2 : Shape := ⟨3, ![1, 100000, 2]⟩
abbrev S200x100000x2 : Shape := ⟨3, ![200, 100000, 2]⟩
abbrev S200x100000x1 : Shape := ⟨3, ![200, 100000, 1]⟩
abbrev S200x100000 : Shape := ⟨2, ![200, 100000]⟩
abbrev S200x1 : Shape := ⟨2, ![200, 1]⟩
abbrev S200 : Shape := ⟨1, ![200]⟩
abbrev S1x100000 : Shape := ⟨2, ![1, 100000]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S100000x2, .f32⟩
  | 1 => ⟨S100000x3, .f32⟩
  | 2 => ⟨S200x4, .f32⟩
  | 3 => ⟨S100000x1, .f32⟩
  | 4 => ⟨S100000, .f32⟩
  | 5 => ⟨S100000, .f32⟩
  | 6 => ⟨S100000, .f32⟩
  | 7 => ⟨S_, .f32⟩
  | 8 => ⟨S100000, .f32⟩
  | 9 => ⟨S100000, .f32⟩
  | 10 => ⟨S_, .f32⟩
  | 11 => ⟨S100000, .f32⟩
  | 12 => ⟨S100000, .f32⟩
  | 13 => ⟨S100000x2, .f32⟩
  | 14 => ⟨S100000x4, .f32⟩
  | 15 => ⟨S100000x2, .f32⟩
  | 16 => ⟨S100000x2, .f32⟩
  | 17 => ⟨S_, .f32⟩
  | 18 => ⟨S100000x2, .f32⟩
  | 19 => ⟨S100000x2, .f32⟩
  | 20 => ⟨S100000x2, .f32⟩
  | 21 => ⟨S100000x2, .f32⟩
  | 22 => ⟨S100000x2, .f32⟩
  | 23 => ⟨S_, .f32⟩
  | 24 => ⟨S100000x2, .f32⟩
  | 25 => ⟨S100000x2, .f32⟩
  | 26 => ⟨S100000x2, .f32⟩
  | 27 => ⟨S100000x4, .f32⟩
  | 28 => ⟨S200x2, .f32⟩
  | 29 => ⟨S200x1x2, .f32⟩
  | 30 => ⟨S100000x2, .f32⟩
  | 31 => ⟨S1x100000x2, .f32⟩
  | 32 => ⟨S200x100000x2, .f32⟩
  | 33 => ⟨S200x100000x2, .f32⟩
  | 34 => ⟨S200x100000x2, .f32⟩
  | 35 => ⟨S200x2, .f32⟩
  | 36 => ⟨S200x1x2, .f32⟩
  | 37 => ⟨S100000x2, .f32⟩
  | 38 => ⟨S1x100000x2, .f32⟩
  | 39 => ⟨S200x100000x2, .f32⟩
  | 40 => ⟨S200x100000x2, .f32⟩
  | 41 => ⟨S200x100000x2, .f32⟩
  | 42 => ⟨S200x100000x2, .f32⟩
  | 43 => ⟨S_, .f32⟩
  | 44 => ⟨S_, .f32⟩
  | 45 => ⟨S200x100000x2, .f32⟩
  | 46 => ⟨S200x100000x2, .f32⟩
  | 47 => ⟨S200x100000x1, .f32⟩
  | 48 => ⟨S200x100000, .f32⟩
  | 49 => ⟨S200x100000x1, .f32⟩
  | 50 => ⟨S200x100000, .f32⟩
  | 51 => ⟨S200x100000, .f32⟩
  | 52 => ⟨S200x1, .f32⟩
  | 53 => ⟨S200, .f32⟩
  | 54 => ⟨S200x1, .f32⟩
  | 55 => ⟨S200, .f32⟩
  | 56 => ⟨S200, .f32⟩
  | 57 => ⟨S200x1, .f32⟩
  | 58 => ⟨S200, .f32⟩
  | 59 => ⟨S200x1, .f32⟩
  | 60 => ⟨S200, .f32⟩
  | 61 => ⟨S200, .f32⟩
  | 62 => ⟨S200, .f32⟩
  | 63 => ⟨S200x1, .f32⟩
  | 64 => ⟨S100000x1, .f32⟩
  | 65 => ⟨S100000, .f32⟩
  | 66 => ⟨S100000x1, .f32⟩
  | 67 => ⟨S100000, .f32⟩
  | 68 => ⟨S100000, .f32⟩
  | 69 => ⟨S100000x1, .f32⟩
  | 70 => ⟨S100000, .f32⟩
  | 71 => ⟨S100000x1, .f32⟩
  | 72 => ⟨S100000, .f32⟩
  | 73 => ⟨S100000, .f32⟩
  | 74 => ⟨S100000, .f32⟩
  | 75 => ⟨S1x100000, .f32⟩
  | 76 => ⟨S200x100000, .f32⟩
  | 77 => ⟨S200x100000, .f32⟩
  | 78 => ⟨S200x100000, .f32⟩
  | 79 => ⟨S200x100000, .f32⟩
  | 80 => ⟨S200x100000, .f32⟩
  | 81 => ⟨S_, .f32⟩
  | 82 => ⟨S100000, .f32⟩
  | 83 => ⟨S_, .f32⟩
  | 84 => ⟨S200, .f32⟩
  | 85 => ⟨S200x100000, .i32⟩
  | 86 => ⟨S_, .f32⟩
  | 87 => ⟨S_, .i32⟩
  | 88 => ⟨S200, .f32⟩
  | 89 => ⟨S200, .i32⟩
  | 90 => ⟨S_, .i32⟩
  | 91 => ⟨S200, .i32⟩
  | 92 => ⟨S200, .i1⟩
  | 93 => ⟨S_, .i32⟩
  | 94 => ⟨S200, .i32⟩
  | 95 => ⟨S200, .i32⟩
  | 96 => ⟨S200, .i32⟩
  | 97 => ⟨S200x1, .i32⟩
  | 98 => ⟨S100000, .f32⟩
  | 99 => ⟨S_, .f32⟩
  | 100 => ⟨S100000, .f32⟩
  | 101 => ⟨S_, .f32⟩
  | 102 => ⟨S100000, .f32⟩
  | 103 => ⟨S100000, .i1⟩
  | 104 => ⟨S_, .f32⟩
  | 105 => ⟨S_, .f32⟩
  | 106 => ⟨S100000, .f32⟩
  | 107 => ⟨S100000, .f32⟩
  | 108 => ⟨S_, .i32⟩
  | 109 => ⟨S200, .i32⟩
  | 110 => ⟨S200, .i1⟩
  | 111 => ⟨S_, .i32⟩
  | 112 => ⟨S200, .i32⟩
  | 113 => ⟨S200, .i32⟩
  | 114 => ⟨S200, .i32⟩
  | 115 => ⟨S200x1, .i32⟩
  | 116 => ⟨S_, .f32⟩
  | 117 => ⟨S200, .f32⟩
  | 118 => ⟨S100000, .f32⟩
  | 119 => ⟨S100000, .f32⟩
  | 120 => ⟨S100000, .f32⟩
  | 121 => ⟨S100000, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S100000x2, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S1x1, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_4 : Ref sig .tc := ⟨.hbm, 81, rfl⟩
abbrev main_v71 : Ref sig .tc := ⟨.hbm, 82, rfl⟩
abbrev main_cst_5 : Ref sig .tc := ⟨.hbm, 83, rfl⟩
abbrev main_v72 : Ref sig .tc := ⟨.hbm, 84, rfl⟩
abbrev main_call1_v0 : Ref sig .tc := ⟨.hbm, 85, rfl⟩
abbrev main_call1_cst : Ref sig .tc := ⟨.hbm, 86, rfl⟩
abbrev main_call1_c : Ref sig .tc := ⟨.hbm, 87, rfl⟩
abbrev main_call1_v1_0 : Ref sig .tc := ⟨.hbm, 88, rfl⟩
abbrev main_v73 : Ref sig .tc := ⟨.hbm, 89, rfl⟩
abbrev main_c : Ref sig .tc := ⟨.hbm, 90, rfl⟩
abbrev main_v74 : Ref sig .tc := ⟨.hbm, 91, rfl⟩
abbrev main_v75 : Ref sig .tc := ⟨.hbm, 92, rfl⟩
abbrev main_c_6 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_7 : Ref sig .tc := ⟨.hbm, 99, rfl⟩
abbrev main_v81 : Ref sig .tc := ⟨.hbm, 100, rfl⟩
abbrev main_cst_8 : Ref sig .tc := ⟨.hbm, 101, rfl⟩
abbrev main_v82 : Ref sig .tc := ⟨.hbm, 102, rfl⟩
abbrev main_v83 : Ref sig .tc := ⟨.hbm, 103, rfl⟩
abbrev main_cst_9 : Ref sig .tc := ⟨.hbm, 104, rfl⟩
abbrev main_call2_v0 : Ref sig .tc := ⟨.hbm, 105, rfl⟩
abbrev main_call2_v1 : Ref sig .tc := ⟨.hbm, 106, rfl⟩
abbrev main_v84 : Ref sig .tc := ⟨.hbm, 107, rfl⟩
abbrev main_c_10 : Ref sig .tc := ⟨.hbm, 108, rfl⟩
abbrev main_v85 : Ref sig .tc := ⟨.hbm, 109, rfl⟩
abbrev main_v86 : Ref sig .tc := ⟨.hbm, 110, rfl⟩
abbrev main_c_11 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_12 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_13 : Ref sig .tc := ⟨.hbm, 122, rfl⟩
abbrev main_v96 : Ref sig .tc := ⟨.hbm, 123, rfl⟩
abbrev main_v97 : Ref sig .tc := ⟨.hbm, 124, rfl⟩
abbrev main_cst_14 : Ref sig .tc := ⟨.hbm, 125, rfl⟩
abbrev main_v98 : Ref sig .tc := ⟨.hbm, 126, rfl⟩
abbrev main_cst_15 : Ref sig .tc := ⟨.hbm, 127, rfl⟩
abbrev main_v99 : Ref sig .tc := ⟨.hbm, 128, rfl⟩
abbrev main_v100 : Ref sig .tc := ⟨.hbm, 129, rfl⟩
abbrev main_cst_16 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩

abbrev nD : Nat := 1
abbrev τ : Topo := Topo.v7x

variable {F : FTy → Type} [FloatOps F]
-- ==== Proof.Spec.lean ====
/-
  The mathematics both programs compute, over the reals: the overlap of two boxes and its bounds, the first place a row is
  greatest and how two stretches of a row join, the last truth to claim a place, and the sums over the claimed places.
-/
module

public import Idealize.ShloMosaic.PureOps.Ideal
public import Mathlib.Analysis.SpecialFunctions.Exp
public import Mathlib.Algebra.BigOperators.Fin
public import Mathlib.Algebra.BigOperators.Intervals

@[expose] public section

noncomputable section
namespace Cert.Spec

/-! ## Boxes -/

/-- The length two intervals share: one from `a` to `b`, one of centre `c` and length `w`. -/
def shared (a b c w : ℝ) : ℝ := max (min b (c + w * (1 / 2)) - max a (c - w * (1 / 2))) 0

/-- The area the box `(x1, y1, x2, y2)` shares with the one of centre `(cx, cy)` and sides `w`, `h`. -/
def inter (x1 y1 x2 y2 cx cy w h : ℝ) : ℝ := shared x1 x2 cx w * shared y1 y2 cy h

/-- The area of the two boxes' union. -/
def union (x1 y1 x2 y2 cx cy w h : ℝ) : ℝ := (x2 - x1) * (y2 - y1) + w * h - inter x1 y1 x2 y2 cx cy w h

/-- The overlap: shared area over the union's. -/
def iou (x1 y1 x2 y2 cx cy w h : ℝ) : ℝ := inter x1 y1 x2 y2 cx cy w h / union x1 y1 x2 y2 cx cy w h

/-- A shared stretch is not negative. -/
theorem shared_nonneg (a b c w : ℝ) : 0 ≤ shared a b c w := le_max_right _ _

/-- A shared stretch is no longer than the prior's side. -/
theorem shared_le (a b c w : ℝ) (hw : 0 ≤ w) : shared a b c w ≤ w := by
  refine max_le ?_ hw
  have h1 : min b (c + w * (1 / 2)) ≤ c + w * (1 / 2) := min_le_right _ _
  have h2 : c - w * (1 / 2) ≤ max a (c - w * (1 / 2)) := le_max_right _ _
  linarith

/-- A prior of no extent at the origin shares nothing. -/
theorem shared_zero (a b : ℝ) (ha : 0 ≤ a) (hb : 0 ≤ b) : shared a b 0 0 = 0 := by
  unfold shared
  rw [zero_mul, add_zero, sub_zero, min_eq_right hb, max_eq_left ha]
  exact max_eq_right (by linarith)

/-- The bounds of the truths and the priors' sides that the overlap's bounds need. -/
structure Sized (x1 y1 x2 y2 w h : ℝ) : Prop where
  px : 0 ≤ x1
  py : 0 ≤ y1
  dx : 3 / 4 ≤ x2 - x1
  dy : 3 / 4 ≤ y2 - y1
  w0 : 0 ≤ w
  h0 : 0 ≤ h
  w1 : w ≤ 1 / 4
  h1 : h ≤ 1 / 4

section
variable {x1 y1 x2 y2 cx cy w h : ℝ} (b : Sized x1 y1 x2 y2 w h)
include b

/-- A common area is not negative. -/
theorem inter_nonneg : 0 ≤ inter x1 y1 x2 y2 cx cy w h := mul_nonneg (shared_nonneg _ _ _ _) (shared_nonneg _ _ _ _)

/-- A common area is at most the prior's. -/
theorem inter_le : inter x1 y1 x2 y2 cx cy w h ≤ w * h :=
  mul_le_mul (shared_le _ _ _ _ b.w0) (shared_le _ _ _ _ b.h0) (shared_nonneg _ _ _ _) b.w0

/-- The union has an area of at least 9/16. -/
theorem union_ge : 9 / 16 ≤ union x1 y1 x2 y2 cx cy w h := by
  have h1 := inter_le (cx := cx) (cy := cy) b
  have h2 : (3 / 4) * (3 / 4) ≤ (x2 - x1) * (y2 - y1) :=
    mul_le_mul b.dx b.dy (by norm_num) (by linarith [b.dx])
  unfold union; linarith

/-- The union's area is not zero. -/
theorem union_ne : union x1 y1 x2 y2 cx cy w h ≠ 0 := by
  have := union_ge (cx := cx) (cy := cy) b; linarith

/-- An overlap is not negative. -/
theorem iou_nonneg : 0 ≤ iou x1 y1 x2 y2 cx cy w h :=
  div_nonneg (inter_nonneg b) (by linarith [union_ge (cx := cx) (cy := cy) b])

/-- An overlap is at most 1/9. -/
theorem iou_le : iou x1 y1 x2 y2 cx cy w h ≤ 1 / 9 := by
  have hu := union_ge (cx := cx) (cy := cy) b
  have h1 := inter_le (cx := cx) (cy := cy) b
  have h2 : w * h ≤ 1 / 4 * (1 / 4) := mul_le_mul b.w1 b.h1 b.h0 (by norm_num)
  unfold iou
  rw [div_le_iff₀ (by linarith)]
  linarith

end

/-- An empty prior at the origin overlaps nothing. -/
theorem iou_zero (x1 y1 x2 y2 : ℝ) (hx : 0 ≤ x1) (hx2 : 0 ≤ x2) : iou x1 y1 x2 y2 0 0 0 0 = 0 := by
  unfold iou inter
  rw [shared_zero _ _ hx hx2, zero_mul, zero_div]

/-! ## The logistic -/

/-- The logistic of a number. -/
def sig (a : ℝ) : ℝ := 1 / (1 + Real.exp (-a))

/-- A logistic is not negative. -/
theorem sig_nonneg (a : ℝ) : 0 ≤ sig a := by unfold sig; positivity

/-- Below two the logistic stays well below one. -/
theorem sig_le (a : ℝ) (ha : a ≤ 2) : sig a ≤ 16 / 17 := by
  have h1 : (1 / 2 : ℝ) ≤ Real.exp (-(1 / 2)) := by
    have := Real.add_one_le_exp (-(1 / 2) : ℝ); linarith
  have h2 : (1 / 16 : ℝ) ≤ Real.exp (-2) := by
    have e : Real.exp (-2) = Real.exp (-(1 / 2)) ^ 4 := by rw [← Real.exp_nat_mul]; norm_num
    rw [e]
    calc (1 / 16 : ℝ) = (1 / 2) ^ 4 := by norm_num
      _ ≤ _ := pow_le_pow_left₀ (by norm_num) h1 4
  have h3 : (1 / 16 : ℝ) ≤ Real.exp (-a) := h2.trans (Real.exp_le_exp.2 (by linarith))
  unfold sig
  rw [div_le_iff₀ (by linarith)]
  linarith

/-! ## The first greatest place -/

/-- `i` is the first of the places below `n` at which `f` is greatest. -/
structure First (f : ℕ → ℝ) (n i : ℕ) : Prop where
  lt : i < n
  le : ∀ p < n, f p ≤ f i
  before : ∀ p < i, f p < f i

/-- There is one first best place. -/
theorem First.unique {f : ℕ → ℝ} {n i j : ℕ} (hi : First f n i) (hj : First f n j) : i = j := by
  rcases lt_trichotomy i j with h | h | h
  · exact absurd (hj.before i h) (not_lt.2 (hi.le j hj.lt))
  · exact h
  · exact absurd (hi.before j h) (not_lt.2 (hj.le i hi.lt))

/-- Two stretches: the later one's place wins when it is strictly greater. -/
theorem First.join {f : ℕ → ℝ} {n m i j : ℕ} (hi : First f n i) (hj : First (fun l => f (n + l)) m j) :
    First f (n + m) (if f i < f (n + j) then n + j else i) := by
  have split : ∀ p, ¬ p < n → p = n + (p - n) := fun p h => by omega
  by_cases h : f i < f (n + j)
  · rw [if_pos h]
    refine ⟨by have := hj.lt; omega, fun p hp => ?_, fun p hp => ?_⟩
    · by_cases hpn : p < n
      · exact (hi.le p hpn).trans h.le
      · rw [split p hpn]; exact hj.le (p - n) (by omega)
    · by_cases hpn : p < n
      · exact (hi.le p hpn).trans_lt h
      · rw [split p hpn]; exact hj.before (p - n) (by omega)
  · rw [if_neg h]
    refine ⟨by have := hi.lt; omega, fun p hp => ?_, fun p hp => hi.before p hp⟩
    by_cases hpn : p < n
    · exact hi.le p hpn
    · rw [split p hpn]; exact (hj.le (p - n) (by omega)).trans (not_lt.1 h)

/-- There is one. -/
theorem First.ex (f : ℕ → ℝ) (n : ℕ) (hn : 0 < n) : ∃ i, First f n i := by
  induction n with
  | zero => omega
  | succ n ih =>
    rcases Nat.eq_zero_or_pos n with h | h
    · subst h
      refine ⟨0, by omega, fun p hp => ?_, fun p hp => by omega⟩
      obtain rfl : p = 0 := by omega
      exact le_rfl
    · obtain ⟨i, hi⟩ := ih h
      have hj : First (fun l => f (n + l)) 1 0 := by
        refine ⟨by omega, fun p hp => ?_, fun p hp => by omega⟩
        obtain rfl : p = 0 := by omega
        exact le_rfl
      exact ⟨_, hi.join hj⟩

/-- Past the places that count `f` is zero and before it is not negative: the first greatest place counts. -/
theorem First.restrict {f : ℕ → ℝ} {n k i : ℕ} (hi : First f n i) (hk : k ≤ n) (hk0 : 0 < k) (h0 : 0 ≤ f 0)
    (hz : ∀ p, k ≤ p → f p = 0) : First f k i := by
  have hik : i < k := by
    by_contra h
    have := hi.before 0 (by omega)
    rw [hz i (by omega)] at this
    linarith
  exact ⟨hik, fun p hp => hi.le p (by omega), hi.before⟩

/-- The fold of `max` is the value at a place none exceeds. -/
theorem fold_max_at {ι : Type} [Fintype ι] (f : ι → EReal) (b : EReal) (i : ι) (hb : b ≤ f i) (h : ∀ x, f x ≤ f i) :
    Finset.univ.fold max b f = f i :=
  le_antisymm ((Finset.fold_max_le _).2 ⟨hb, fun x _ => h x⟩) (Finset.le_fold_max _ |>.2 (Or.inr ⟨i, Finset.mem_univ _, le_rfl⟩))

/-- The fold of `min` is the value at a place none goes below. -/
theorem fold_min_at {ι : Type} [Fintype ι] (f : ι → EReal) (b : EReal) (i : ι) (hb : f i ≤ b) (h : ∀ x, f i ≤ f x) :
    Finset.univ.fold min b f = f i :=
  le_antisymm (Finset.fold_min_le _ |>.2 (Or.inr ⟨i, Finset.mem_univ _, le_rfl⟩)) ((Finset.le_fold_min _).2 ⟨hb, fun x _ => h x⟩)

/-! ## Sums -/

/-- A sum of real numbers is the sum of their extended ones. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The lanes' sums over `n` blocks of `m` come to the sum over all the places. -/
theorem sum_blocks (s : ℕ → ℝ) (m n : ℕ) :
    ∑ l : Fin m, ∑ k ∈ Finset.range n, s (m * k + l.val) = ∑ p ∈ Finset.range (m * n), s p := by
  rw [Finset.sum_comm]
  induction n with
  | zero => simp
  | succ n ih =>
    rw [Finset.sum_range_succ, ih, Nat.mul_succ, Finset.sum_range_add, Fin.sum_univ_eq_sum_range (fun l => s (m * n + l))]

/-- Places past the ones that count add nothing. -/
theorem sum_cut (s : ℕ → ℝ) (k n : ℕ) (hk : k ≤ n) (hz : ∀ p, k ≤ p → s p = 0) :
    ∑ p ∈ Finset.range n, s p = ∑ p : Fin k, s p.val := by
  rw [Fin.sum_univ_eq_sum_range]
  refine (Finset.sum_subset (by simpa using hk) fun p _ hp => hz p ?_).symm
  simpa using hp

/-- A non-negative real goes inside a sum of extended reals. -/
theorem mul_sum_ereal {ι : Type} (s : Finset ι) (c : ℝ) (hc : 0 ≤ c) (f : ι → EReal) :
    (c : EReal) * ∑ x ∈ s, f x = ∑ x ∈ s, (c : EReal) * f x := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-! ## The last claim -/

section claims
variable {T n : ℕ} (i : Fin T → Fin n)

/-- One at the last truth that claims its place, zero at the others. -/
def last (t : Fin T) : ℝ := if ∃ u, t < u ∧ i u = i t then 0 else 1

/-- The last truth to claim a claimed place. -/
theorem ex_last (p : Fin n) (h : ∃ t, i t = p) : ∃ t, i t = p ∧ ∀ u, t < u → i u ≠ p := by
  obtain ⟨t, ht⟩ := h
  have hne : (Finset.univ.filter fun u => i u = p).Nonempty := ⟨t, by simpa using ht⟩
  refine ⟨(Finset.univ.filter fun u => i u = p).max' hne, ?_, fun u hu hup => ?_⟩
  · simpa using Finset.max'_mem _ hne
  · exact absurd (Finset.le_max' (Finset.univ.filter fun u => i u = p) u (by simpa using hup)) (not_le.2 hu)

/-- A sum over the claimed places is the sum over their last claims. -/
theorem sum_claims (g : Fin n → EReal) (k : Fin T → EReal)
    (hin : ∀ t, (∀ u, t < u → i u ≠ i t) → g (i t) = k t) (hout : ∀ p, (∀ t, i t ≠ p) → g p = 0)
    (hk : ∀ t, (∃ u, t < u ∧ i u = i t) → k t = 0) : ∑ p, g p = ∑ t, k t := by
  classical
  let W : Finset (Fin T) := Finset.univ.filter fun t => ∀ u, t < u → i u ≠ i t
  have hW : ∀ t, t ∈ W ↔ ∀ u, t < u → i u ≠ i t := fun t => by simp [W]
  have hinj : Set.InjOn i W := by
    intro a ha b hb hab
    have ha' := (hW a).1 ha
    have hb' := (hW b).1 hb
    rcases lt_trichotomy a b with h | h | h
    · exact absurd hab.symm (ha' b h)
    · exact h
    · exact absurd hab (hb' a h)
  calc ∑ p, g p = ∑ p ∈ W.image i, g p := by
        refine (Finset.sum_subset (Finset.subset_univ _) fun p _ hp => hout p fun t ht => hp ?_).symm
        obtain ⟨t', h1, h2⟩ := ex_last i p ⟨t, ht⟩
        exact Finset.mem_image.2 ⟨t', (hW t').2 fun u hu => by rw [h1]; exact h2 u hu, h1⟩
    _ = ∑ t ∈ W, g (i t) := Finset.sum_image hinj
    _ = ∑ t ∈ W, k t := Finset.sum_congr rfl fun t ht => hin t ((hW t).1 ht)
    _ = ∑ t, k t := by
        refine Finset.sum_subset (Finset.subset_univ _) fun t _ ht => hk t ?_
        by_contra hno
        exact ht ((hW t).2 fun u hu he => hno ⟨u, hu, he⟩)

/-- A truth is marked if no later one has its place. -/
theorem last_one (t : Fin T) (h : ∀ u, t < u → i u ≠ i t) : last i t = 1 := if_neg fun ⟨u, hu, he⟩ => h u hu he
/-- A truth is not marked if a later one has its place. -/
theorem last_zero (t : Fin T) (h : ∃ u, t < u ∧ i u = i t) : last i t = 0 := if_pos h

/-- The two programs' quotients agree: the one sums over the places with the filter `X` (`c` at the claimed ones, zero at
    the others) and the logs `G` there, the other over the last claims. -/
theorem quotients (c : ℝ) (hc : 0 ≤ c) (s : Fin n → ℝ) (X G : Fin n → EReal) (L : Fin T → EReal)
    (hX1 : ∀ t, X (i t) = (c : EReal)) (hX0 : ∀ p, (∀ t, i t ≠ p) → X p = 0)
    (hG : ∀ t, (∀ u, t < u → i u ≠ i t) → G (i t) = L t) :
    (∑ p, (s p : EReal) * X p * G p = c * ∑ t, (last i t : EReal) * (s (i t) : EReal) * L t)
      ∧ ∑ p, X p = c * ∑ t, (last i t : EReal) := by
  rw [mul_sum_ereal _ c hc, mul_sum_ereal _ c hc]
  constructor
  · refine sum_claims i _ _ (fun t ht => ?_) (fun p hp => by rw [hX0 p hp, mul_zero, zero_mul]) fun t ht => by
      rw [last_zero i t ht, EReal.coe_zero, zero_mul, zero_mul, mul_zero]
    rw [hX1, hG t ht, last_one i t ht, EReal.coe_one, one_mul, mul_comm (s (i t) : EReal), mul_assoc]
  · refine sum_claims i _ _ (fun t ht => ?_) (fun p hp => hX0 p hp) fun t ht => by
      rw [last_zero i t ht, EReal.coe_zero, mul_zero]
    rw [hX1, last_one i t ht, EReal.coe_one, mul_one]

end claims
end Cert.Spec
end
-- ==== Proof.Consts.lean ====
/-
  The literals the programs and the precondition carry, as real numbers (or as the two infinities).
-/
module

public import Idealize.ShloMosaic.PureOps.Ideal
public import Idealize.ShloMosaic.Lib.WordArith

@[expose] public section

noncomputable section
namespace Cert.Consts
open Idealize.ShloMosaic

/-- The literal 1/2. -/
theorem half : Ideal.ofBits FTy.f32 1056964608#32 = ((1 / 2 : ℝ) : EReal) := by
  simp [Ideal.ofBits, Ideal.ieee, -EReal.coe_mul]; norm_num
/-- The literal 1. -/
theorem one : Ideal.ofBits FTy.f32 1065353216#32 = ((1 : ℝ) : EReal) := by
  simp [Ideal.ofBits, Ideal.ieee, -EReal.coe_mul]; norm_num
/-- The literal -1. -/
theorem minusOne : Ideal.ofBits FTy.f32 3212836864#32 = ((-1 : ℝ) : EReal) := by
  simp [Ideal.ofBits, Ideal.ieee, -EReal.coe_mul]; norm_num
/-- The literal 2. -/
theorem two : Ideal.ofBits FTy.f32 1073741824#32 = ((2 : ℝ) : EReal) := by
  simp [Ideal.ofBits, Ideal.ieee, -EReal.coe_mul]; norm_num
/-- The literal -2. -/
theorem minusTwo : Ideal.ofBits FTy.f32 3221225472#32 = ((-2 : ℝ) : EReal) := by
  simp [Ideal.ofBits, Ideal.ieee, -EReal.coe_mul]; norm_num
/-- The literal 5/2. -/
theorem twoHalf : Ideal.ofBits FTy.f32 1075838976#32 = ((5 / 2 : ℝ) : EReal) := by
  simp [Ideal.ofBits, Ideal.ieee, -EReal.coe_mul]; norm_num
/-- The literal 0. -/
theorem zero : Ideal.ofBits FTy.f32 0#32 = ((0 : ℝ) : EReal) := by
  simp [Ideal.ofBits, Ideal.ieee, -EReal.coe_mul]
/-- The literal 1/4. -/
theorem quarter : Ideal.ofBits FTy.f32 1048576000#32 = ((1 / 4 : ℝ) : EReal) := by
  simp [Ideal.ofBits, Ideal.ieee, -EReal.coe_mul]; norm_num
/-- The literal a thousand million, above every packed number. -/
theorem big : Ideal.ofBits FTy.f32 1315859240#32 = ((1000000000 : ℝ) : EReal) := by
  simp [Ideal.ofBits, Ideal.ieee, -EReal.coe_mul]; norm_num
/-- The literal minus infinity. -/
theorem bot : Ideal.ofBits FTy.f32 4286578688#32 = ⊥ := by
  simp [Ideal.ofBits, Ideal.ieee, -EReal.coe_mul]
/-- The literal plus infinity. -/
theorem top : Ideal.ofBits FTy.f32 2139095040#32 = ⊤ := by
  simp [Ideal.ofBits, Ideal.ieee, -EReal.coe_mul]

/-- The cap, at least 0.97 and below one. -/
theorem cap : ∃ r : ℝ, 97 / 100 ≤ r ∧ r < 1 ∧ Ideal.ofBits FTy.f32 1065017672#32 = (r : EReal) := by
  refine ⟨(16441672 : ℝ) * 2 ^ (-24 : ℤ), ?_, ?_, ?_⟩
  · norm_num
  · norm_num
  · simp [Ideal.ofBits, Ideal.ieee, -EReal.coe_mul]

/-- The threshold, at least 2/5. -/
theorem thresh : ∃ r : ℝ, 2 / 5 ≤ r ∧ Ideal.ofBits FTy.f32 1053609165#32 = (r : EReal) := by
  refine ⟨(13421773 : ℝ) * 2 ^ (-25 : ℤ), ?_, ?_⟩
  · norm_num
  · simp [Ideal.ofBits, Ideal.ieee, -EReal.coe_mul]

/-- The least side, above zero. -/
theorem side : ∃ r : ℝ, 0 ≤ r ∧ Ideal.ofBits FTy.f32 1028443341#32 = (r : EReal) := by
  refine ⟨(13421773 : ℝ) * 2 ^ (-28 : ℤ), ?_, ?_⟩
  · norm_num
  · simp [Ideal.ofBits, Ideal.ieee, -EReal.coe_mul]

/-- The greatest lower corner, at most 0.11. -/
theorem lower : ∃ r : ℝ, r ≤ 11 / 100 ∧ Ideal.ofBits FTy.f32 1036831949#32 = (r : EReal) := by
  refine ⟨(13421773 : ℝ) * 2 ^ (-27 : ℤ), ?_, ?_⟩
  · norm_num
  · simp [Ideal.ofBits, Ideal.ieee, -EReal.coe_mul]

/-- The least upper corner, at least 0.89. -/
theorem upper : ∃ r : ℝ, 89 / 100 ≤ r ∧ Ideal.ofBits FTy.f32 1063675494#32 = (r : EReal) := by
  refine ⟨(15099494 : ℝ) * 2 ^ (-24 : ℤ), ?_, ?_⟩
  · norm_num
  · simp [Ideal.ofBits, Ideal.ieee, -EReal.coe_mul]

/-- A word of a number below 2^31, converted to a float, is that number. -/
theorem float_of_word (n : ℕ) (h : n < 2 ^ 31) :
    FloatOps.sitofp (F := Ideal) FTy.f32 (BitVec.ofNat 32 n) = ((n : ℝ) : EReal) := by
  have e : FloatOps.sitofp (F := Ideal) FTy.f32 (BitVec.ofNat 32 n) = (((BitVec.ofNat 32 n).toInt : ℝ) : EReal) := rfl
  rw [e, WordArith.toInt_ofNat_small n h]
  simp

/-- A number below 2^31, converted to a word, is that number's word. -/
theorem word_of_float (n : ℕ) (h : n < 2 ^ 31) :
    FloatOps.fptosi (F := Ideal) (φ := FTy.f32) 32 (((n : ℝ) : EReal) : Ideal FTy.f32) = BitVec.ofNat 32 n := by
  have e : FloatOps.fptosi (F := Ideal) (φ := FTy.f32) 32 (((n : ℝ) : EReal) : Ideal FTy.f32)
      = Ideal.fptosi 32 ((n : ℝ) : EReal) := rfl
  rw [e, Ideal.fptosi, Ideal.toIntClamped_coe, if_pos (by positivity), Int.floor_natCast, min_eq_right (by push_cast; omega),
    max_eq_right (by push_cast; omega), BitVec.ofInt_natCast]

end Cert.Consts
end
-- ==== Proof.Data.lean ====
/-
  The arguments as real numbers: the priors' centres and sides and the scores' logistics, each over all places (zero at the
  places past the last prior), the truths' corners, the overlaps; and what the precondition says of them.
-/
module

public import proofs.«01_k».proof.Defs
public import proofs.«01_k».proof.Proof.Spec
public import proofs.«01_k».proof.Proof.Consts
public import proofs.«01_k».proof.Proof.Gen.Pre_in_range
public import Idealize.ShloMosaic.Lib.Pointwise
public import Idealize.ShloMosaic.Lib.ReduceAll

@[expose] public section

noncomputable section
namespace Cert.Data
open Idealize.ShloMosaic Cert.Spec

/-- A matrix of ideal numbers. -/
abbrev Mat (r c : ℕ) : Type := FVec Ideal (⟨2, ![r, c]⟩ : Shape) .f32

section
variable (A0 : Mat 100000 2) (A1 : Mat 100000 3) (A2 : Mat 200 4)

/-- A column of a matrix over all places, zero past its end. -/
def col {k : ℕ} (A : Mat 100000 k) (j : Fin k) (p : ℕ) : ℝ :=
  if h : p < 100000 then (A (ix2 (⟨p, h⟩ : Fin 100000) j)).toReal else 0

/-- A truth's corner coordinate. -/
def corner (t : Fin 200) (j : Fin 4) : ℝ := (A2 (ix2 t j)).toReal

/-- The overlap of a truth with the prior at a place. -/
def ov (t : Fin 200) (p : ℕ) : ℝ :=
  iou (corner A2 t 0) (corner A2 t 1) (corner A2 t 2) (corner A2 t 3) (col A0 0 p) (col A0 1 p) (col A1 0 p) (col A1 1 p)

/-- The score at a place. -/
def sg (p : ℕ) : ℝ := if p < 100000 then sig (col A1 2 p) else 0

/-- What is used of the precondition: the entries are real numbers, within these bounds. -/
structure Bounds : Prop where
  loc : ∀ p j, ∃ r : ℝ, A0 (ix2 p j) = (r : EReal)
  side : ∀ p, ∀ j : Fin 2, ∃ r : ℝ, A1 (ix2 p j.castSucc) = (r : EReal) ∧ 0 ≤ r ∧ r ≤ 1 / 4
  conf : ∀ p, ∃ r : ℝ, A1 (ix2 p 2) = (r : EReal) ∧ r ≤ 2
  low : ∀ t, ∀ j : Fin 2, ∃ r : ℝ, A2 (ix2 t (Fin.castLE (by decide) j)) = (r : EReal) ∧ 0 ≤ r ∧ r ≤ 11 / 100
  high : ∀ t, ∀ j : Fin 2, ∃ r : ℝ, A2 (ix2 t (Fin.natAdd 2 j)) = (r : EReal) ∧ 89 / 100 ≤ r

end

section
variable {A0 : Mat 100000 2} {A1 : Mat 100000 3} {A2 : Mat 200 4} (b : Bounds A0 A1 A2)
include b

/-- A centre's coordinate is its real number. -/
theorem loc_eq (p : Fin 100000) (j : Fin 2) : A0 (ix2 p j) = (col A0 j p.val : EReal) := by
  obtain ⟨r, hr⟩ := b.loc p j
  simp [col, hr]

/-- A width is its real number. -/
theorem w_eq (p : Fin 100000) : A1 (ix2 p 0) = (col A1 0 p.val : EReal) := by
  obtain ⟨r, hr, -⟩ := b.side p 0
  have hr : A1 (ix2 p 0) = (r : EReal) := hr
  simp [col, hr]

/-- A height is its real number. -/
theorem h_eq (p : Fin 100000) : A1 (ix2 p 1) = (col A1 1 p.val : EReal) := by
  obtain ⟨r, hr, -⟩ := b.side p 1
  have hr : A1 (ix2 p 1) = (r : EReal) := hr
  simp [col, hr]

/-- A logit is its real number. -/
theorem conf_eq (p : Fin 100000) : A1 (ix2 p 2) = (col A1 2 p.val : EReal) := by
  obtain ⟨r, hr, -⟩ := b.conf p
  simp [col, hr]

/-- A corner's coordinate is its real number. -/
theorem corner_eq (t : Fin 200) (j : Fin 4) : A2 (ix2 t j) = (corner A2 t j : EReal) := by
  have h : ∃ r : ℝ, A2 (ix2 t j) = (r : EReal) := by
    match j with
    | ⟨0, _⟩ => exact (b.low t 0).imp fun r h => h.1
    | ⟨1, _⟩ => exact (b.low t 1).imp fun r h => h.1
    | ⟨2, _⟩ => exact (b.high t 0).imp fun r h => h.1
    | ⟨3, _⟩ => exact (b.high t 1).imp fun r h => h.1
  obtain ⟨r, hr⟩ := h
  simp [corner, hr]

/-- A width, or the zero past the last prior, lies between 0 and 1/4. -/
theorem w_bounds (p : ℕ) : 0 ≤ col A1 0 p ∧ col A1 0 p ≤ 1 / 4 := by
  by_cases h : p < 100000
  · obtain ⟨r, hr, h0, h1⟩ := b.side ⟨p, h⟩ 0
    have hr : A1 (ix2 (⟨p, h⟩ : Fin 100000) 0) = (r : EReal) := hr
    rw [col, dif_pos h, hr, EReal.toReal_coe]
    exact ⟨h0, h1⟩
  · rw [col, dif_neg h]; norm_num

/-- A height, or the zero past the last prior, lies between 0 and 1/4. -/
theorem h_bounds (p : ℕ) : 0 ≤ col A1 1 p ∧ col A1 1 p ≤ 1 / 4 := by
  by_cases h : p < 100000
  · obtain ⟨r, hr, h0, h1⟩ := b.side ⟨p, h⟩ 1
    have hr : A1 (ix2 (⟨p, h⟩ : Fin 100000) 1) = (r : EReal) := hr
    rw [col, dif_pos h, hr, EReal.toReal_coe]
    exact ⟨h0, h1⟩
  · rw [col, dif_neg h]; norm_num

/-- A truth's first corner lies near the origin. -/
theorem low_bounds (t : Fin 200) : (0 ≤ corner A2 t 0 ∧ corner A2 t 0 ≤ 11 / 100) ∧ 0 ≤ corner A2 t 1 ∧ corner A2 t 1 ≤ 11 / 100 := by
  obtain ⟨r, hr, h0, h1⟩ := b.low t 0
  obtain ⟨q, hq, k0, k1⟩ := b.low t 1
  have hr : A2 (ix2 t 0) = (r : EReal) := hr
  have hq : A2 (ix2 t 1) = (q : EReal) := hq
  rw [corner, corner, hr, hq, EReal.toReal_coe, EReal.toReal_coe]
  exact ⟨⟨h0, h1⟩, k0, k1⟩

/-- A truth's second corner lies far from the origin. -/
theorem high_bounds (t : Fin 200) : 89 / 100 ≤ corner A2 t 2 ∧ 89 / 100 ≤ corner A2 t 3 := by
  obtain ⟨r, hr, h0⟩ := b.high t 0
  obtain ⟨q, hq, k0⟩ := b.high t 1
  have hr : A2 (ix2 t 2) = (r : EReal) := hr
  have hq : A2 (ix2 t 3) = (q : EReal) := hq
  rw [corner, corner, hr, hq, EReal.toReal_coe, EReal.toReal_coe]
  exact ⟨h0, k0⟩

/-- A truth is large and a prior small. -/
theorem sized (t : Fin 200) (p : ℕ) :
    Sized (corner A2 t 0) (corner A2 t 1) (corner A2 t 2) (corner A2 t 3) (col A1 0 p) (col A1 1 p) := by
  have h1 := low_bounds b t
  have h2 := high_bounds b t
  have h3 := w_bounds b p
  have h4 := h_bounds b p
  exact ⟨h1.1.1, h1.2.1, by linarith [h1.1.2, h2.1], by linarith [h1.2.2, h2.2], h3.1, h4.1, h3.2, h4.2⟩

/-- An overlap is not negative. -/
theorem ov_nonneg (t : Fin 200) (p : ℕ) : 0 ≤ ov A0 A1 A2 t p := iou_nonneg (sized b t p)
/-- An overlap is at most 1/9. -/
theorem ov_le (t : Fin 200) (p : ℕ) : ov A0 A1 A2 t p ≤ 1 / 9 := iou_le (sized b t p)

/-- Past the last prior the overlap is zero. -/
theorem ov_past (t : Fin 200) (p : ℕ) (hp : 100000 ≤ p) : ov A0 A1 A2 t p = 0 := by
  have h1 := low_bounds b t
  have h2 := high_bounds b t
  have e : ∀ {k : ℕ} (A : Mat 100000 k) (j : Fin k), col A j p = 0 := fun A j => dif_neg (by omega)
  rw [ov, e, e, e, e]
  exact iou_zero _ _ _ _ h1.1.1 (by linarith [h2.1])

/-- A score is not negative. -/
theorem sg_nonneg (p : ℕ) : 0 ≤ sg A1 p := by
  unfold sg; split
  · exact sig_nonneg _
  · exact le_rfl

/-- A score is at most 16/17. -/
theorem sg_le (p : ℕ) : sg A1 p ≤ 16 / 17 := by
  unfold sg; split
  · rename_i h
    refine sig_le _ ?_
    obtain ⟨r, hr, h1⟩ := b.conf ⟨p, h⟩
    rw [col, dif_pos h, hr, EReal.toReal_coe]
    exact h1
  · norm_num

end

/-- Between two literals that are real numbers an ideal number is a real number. -/
theorem real_of_between (x : EReal) (lo hi : ℝ) (h1 : (lo : EReal) ≤ x) (h2 : x ≤ (hi : EReal)) :
    ∃ r : ℝ, x = (r : EReal) ∧ lo ≤ r ∧ r ≤ hi := by
  have hb : x ≠ ⊥ := fun e => by rw [e] at h1; exact absurd (le_bot_iff.1 h1) (EReal.coe_ne_bot lo)
  have ht : x ≠ ⊤ := fun e => by rw [e] at h2; exact absurd (top_le_iff.1 h2) (EReal.coe_ne_top hi)
  lift x to ℝ using ⟨ht, hb⟩
  exact ⟨x, rfl, by exact_mod_cast h1, by exact_mod_cast h2⟩

/-- The word of a truth value is one exactly if it is true. -/
theorem ofBool_one (b : Bool) : BitVec.ofBool b = 1#1 ↔ b = true := by cases b <;> decide

/-- A conjunction of the two comparisons is one exactly when the number lies between. -/
theorem between_of_one (x lo hi : Ideal .f32)
    (h : IntOp.andi (FloatOps.cmpf .oge x lo) (FloatOps.cmpf .ole x hi) = 1#1) : (lo : EReal) ≤ x ∧ (x : EReal) ≤ hi := by
  rw [IntOp.andi_eq_one] at h
  obtain ⟨h1, h2⟩ := h
  simp only [Ideal.cmpf_def, Ideal.cmp, ofBool_one, decide_eq_true_eq] at h1 h2
  exact ⟨h1, h2⟩

open Cert.Pre_in_range Cert.Pre_in_range.Gen in
/-- What the printed precondition says. -/
theorem bounds_of_pre (A0 : Mat 100000 2) (A1 : Mat 100000 3) (A2 : Mat 200 4)
    (h : Cert.Pre_in_range.fn (F := Ideal) A0 A1 A2 = fun _ => 1#1) : Bounds A0 A1 A2 := by
  have h := congrFun h ix0
  unfold fn fn_part1 fn_part2 at h
  simp only [andi_apply, IntOp.andi_eq_one] at h
  obtain ⟨⟨⟨⟨h0, h1⟩, h2⟩, h3⟩, h4⟩ := h
  have h0 := Host.reduce_andi_all _ _ _ _ _ h0
  have h1 := Host.reduce_andi_all _ _ _ _ _ h1
  have h2 := Host.reduce_andi_all _ _ _ _ _ h2
  have h3 := Host.reduce_andi_all _ _ _ _ _ h3
  have h4 := Host.reduce_andi_all _ _ _ _ _ h4
  obtain ⟨lo, hlo, hlo0⟩ := Consts.side
  obtain ⟨up, hup, hup1⟩ := Consts.lower
  obtain ⟨lo', hlo', hlo1⟩ := Consts.upper
  refine ⟨fun p j => ?_, fun p j => ?_, fun p => ?_, fun t j => ?_, fun t j => ?_⟩
  · have e := between_of_one _ _ _ (h0 (ix2 p j))
    pointwise at e
    obtain ⟨r, hr, -⟩ := real_of_between _ 0 1 e.1 e.2
    exact ⟨r, hr⟩
  · have e := between_of_one _ _ _ (h1 (ix2 p j))
    pointwise at e
    rw [hlo0, Consts.quarter] at e
    obtain ⟨r, hr, h2, h3⟩ := real_of_between _ _ _ e.1 e.2
    exact ⟨r, hr, by linarith, by linarith⟩
  · have e := between_of_one _ _ _ (h2 (ix2 p 0))
    pointwise at e
    rw [Consts.minusTwo, Consts.two] at e
    obtain ⟨r, hr, h2, h3⟩ := real_of_between _ _ _ e.1 e.2
    exact ⟨r, hr, by linarith⟩
  · have e := between_of_one _ _ _ (h3 (ix2 t j))
    pointwise at e
    rw [hup1] at e
    obtain ⟨r, hr, h2, h3⟩ := real_of_between _ 0 _ e.1 e.2
    exact ⟨r, hr, by linarith, by linarith⟩
  · have e := between_of_one _ _ _ (h4 (ix2 t j))
    pointwise at e
    rw [hlo1] at e
    obtain ⟨r, hr, h2, h3⟩ := real_of_between _ _ 1 e.1 e.2
    exact ⟨r, hr, by linarith⟩

end Cert.Data
-- ==== Proof.Entry.lean ====
/-
  What the kernel's first window holds: the eight rows the host packs (centres, sides, confidence, place), padded to thirteen
  blocks, read at a point of the grid.
-/
module

public import proofs.«01_k».proof.Proof.Gen.KernelIdeal.Value
public import proofs.«01_k».proof.Proof.Data
public import Idealize.ShloMosaic.Lib.Pipeline.ValueKit
public import Idealize.ShloMosaic.Lib.Pointwise

@[expose] public section
set_option maxRecDepth 16384

noncomputable section
namespace Cert.KernelIdeal.Value
open Cert.KernelIdeal Cert.KernelIdeal.Gen Idealize.ShloMosaic Idealize.ShloMosaic.TcCoe Idealize.SL.Sem
open Idealize.ShloMosaic.Pipeline (Dat)

section
variable (m : (l : Loc nD τ sig) → Buf (Elt Ideal) l)

/-- The windows' block indices at a point: the first moves along and stays at the last block, the second stays. -/
theorem window_index : ∀ t : Fin cfg0.N, win0_0.index t = ![0, min t.val 12] ∧ win0_1.index t = ![0, 0] :=
  (by decide +kernel : ∀ t : Fin grid0.N, _)

/-- The first window's block is a stretch of the packed array. -/
theorem block_entry (c : Dev nD) (t : Fin cfg0.N) (ht : t.val < 13) (r : Fin 8) (l : Fin 8192) :
    iblk m c 0 t (ix2 r l) = V m c main_v25 (ix2 r (⟨8192 * t.val + l.val, by omega⟩ : Fin 106496)) := by
  blk_ext [iblk, window_index t]

/-- The second window's block is the truths. -/
theorem truth_entry (c : Dev nD) (t : Fin cfg0.N) (u : Fin 200) (k : Fin 4) :
    iblk m c 1 t (ix2 u k) = m ((c : Thread nD τ).loc main_arg2) (ix2 u k) := by
  blk_ext [iblk, V, window_index t]

/-- A column of a matrix over all packed places, with a value for the places past its end. -/
def padded {k : ℕ} (A : Data.Mat 100000 k) (j : Fin k) (z : EReal) (q : ℕ) : EReal :=
  if h : q < 100000 then A (ix2 (⟨q, h⟩ : Fin 100000) j) else z

/-- A column of real numbers, padded with zeros, is its real column. -/
theorem padded_eq {k : ℕ} {A : Data.Mat 100000 k} {j : Fin k} (h : ∀ p : Fin 100000, A (ix2 p j) = (Data.col A j p.val : EReal))
    (q : ℕ) : padded A j 0 q = (Data.col A j q : EReal) := by
  unfold padded
  split
  · exact h _
  · rename_i hq
    rw [Data.col, dif_neg hq]; rfl

/-- What the packed array holds at a place, row by row: the centre, the width, the height, the logit and the place. -/
structure Packed (A0 : Data.Mat 100000 2) (A1 : Data.Mat 100000 3) (x : Fin 8 → EReal) (q : ℕ) : Prop where
  cx : x 0 = padded A0 0 0 q
  cy : x 1 = padded A0 1 0 q
  w : x 2 = padded A1 0 0 q
  h : x 3 = padded A1 1 0 q
  conf : x 4 = padded A1 2 (Ideal.ofBits FTy.f32 4286578688#32) q
  place : x 5 = FloatOps.sitofp (F := Ideal) FTy.f32 (BitVec.ofNat 32 q)

/-- The packed array holds these rows. -/
theorem packed (c : Dev nD) (q : Fin 106496) : Packed (m ((c : Thread nD τ).loc main_arg0)) (m ((c : Thread nD τ).loc main_arg1))
    (fun r => V m c main_v25 (ix2 r q)) q.val := by
  constructor <;> unfold V <;> simp only [padded, hostOps0, hostOps0_1, hostOps0_2, hostOps0_3, hostOps0_4, hostOps0_5, hostOps0_6,
      hostOps0_7, hostOps0_8, hostOps0_9, hostOps0_10, List.flatten_cons, List.flatten_nil, List.append_nil, List.cons_append,
      List.nil_append] <;>
    after_results <;> pointwise <;> after_results_loop <;>
    (try dsimp only [StableHlo.TRef.toBuf, StableHlo.TRef.ofBuf, StableHlo.TRef.of, id, cast_eq, eq_mpr_eq_cast]) <;> pointwise

end

/-- What a block of the packed array holds, as real numbers: the block is the `n`th stretch of 8192 places. -/
structure Block (A0 : Data.Mat 100000 2) (A1 : Data.Mat 100000 3) (n : ℕ) (x : Vec Ideal S8x8192 .f32) : Prop where
  cx : ∀ l : Fin 8192, x (ix2 0 l) = (Data.col A0 0 (8192 * n + l.val) : EReal)
  cy : ∀ l : Fin 8192, x (ix2 1 l) = (Data.col A0 1 (8192 * n + l.val) : EReal)
  w : ∀ l : Fin 8192, x (ix2 2 l) = (Data.col A1 0 (8192 * n + l.val) : EReal)
  h : ∀ l : Fin 8192, x (ix2 3 l) = (Data.col A1 1 (8192 * n + l.val) : EReal)
  conf : ∀ l : Fin 8192, Ideal.logistic (x (ix2 4 l)) = (Data.sg A1 (8192 * n + l.val) : EReal)
  place : ∀ l : Fin 8192, x (ix2 5 l) = (((8192 * n + l.val : ℕ) : ℝ) : EReal)

/-- The block at a point before the last. -/
theorem block (m : (l : Loc nD τ sig) → Buf (Elt Ideal) l) (c : Dev nD)
    (b : Data.Bounds (m ((c : Thread nD τ).loc main_arg0)) (m ((c : Thread nD τ).loc main_arg1))
      (m ((c : Thread nD τ).loc main_arg2)))
    (t : Fin cfg0.N) (ht : t.val < 13) :
    Block (m ((c : Thread nD τ).loc main_arg0)) (m ((c : Thread nD τ).loc main_arg1)) t.val (iblk m c 0 t) := by
  refine ⟨fun l => ?_, fun l => ?_, fun l => ?_, fun l => ?_, fun l => ?_, fun l => ?_⟩
  · exact ((block_entry m c t ht 0 l).trans (packed m c _).cx).trans (padded_eq (fun p => Data.loc_eq b p 0) _)
  · exact ((block_entry m c t ht 1 l).trans (packed m c _).cy).trans (padded_eq (fun p => Data.loc_eq b p 1) _)
  · exact ((block_entry m c t ht 2 l).trans (packed m c _).w).trans (padded_eq (Data.w_eq b) _)
  · exact ((block_entry m c t ht 3 l).trans (packed m c _).h).trans (padded_eq (Data.h_eq b) _)
  · refine (congrArg Ideal.logistic ((block_entry m c t ht 4 l).trans (packed m c _).conf)).trans ?_
    unfold padded
    split
    · rename_i hp
      refine (congrArg Ideal.logistic (Data.conf_eq b _)).trans ?_
      rw [Ideal.logistic_coe, Data.sg, if_pos hp, Spec.sig, one_div]
    · rename_i hp
      rw [Consts.bot, Ideal.logistic_bot, Data.sg, if_neg hp]; rfl
  · exact (block_entry m c t ht 5 l).trans ((packed m c _).place.trans (Consts.float_of_word _ (by omega)))

end Cert.KernelIdeal.Value
end
-- ==== Proof.Pay.lean ====
/-
  Single values of the kernel body at an index, over arbitrary operands.
-/
module

public import proofs.«01_k».proof.Proof.Entry

@[expose] public section
set_option maxRecDepth 16384

noncomputable section
namespace Cert.KernelIdeal.Value
open Cert.KernelIdeal Cert.KernelIdeal.Gen Idealize.ShloMosaic Idealize.ShloMosaic.TcCoe Idealize.SL.Sem
open Idealize.ShloMosaic.Pipeline (Dat)

variable (a0 : FVec Ideal S1x8192 .f32) (a1 a2 a3 a4 : FVec Ideal S1x8192 .f32) (b1 b2 b3 b4 : Vec Ideal S200x1 .f32)
variable (d1 d2 d3 : FVec Ideal S200x8192 .f32) (e : Vec Ideal S1x8192 .f32) (M : Vec Ideal S200x1 .f32) (t : Fin 200)
/-- The best overlap of each truth. -/
theorem pay24_at : k0_pay24 a1 a2 a3 a4 b1 b2 b3 b4 d1 d2 d3 (ix2 t 0)
      = Finset.fold max (Ideal.ofBits FTy.f32 4286578688#32) (fun l : Fin 8192 => k0_pay21 a1 a2 a3 a4 b1 b2 b3 b4 d1 d2 d3 (ix2 t l)) Finset.univ := by
  unfold k0_pay24
  pointwise
/-- The least of place plus score over the places of the best overlap. -/
theorem pay25_at : k0_pay25 a0 a1 a2 a3 a4 b1 b2 b3 b4 d1 d2 d3 e (ix2 t 0)
      = Finset.fold min (Ideal.ofBits FTy.f32 2139095040#32) (fun l : Fin 8192 =>
          if k0_pay21 a1 a2 a3 a4 b1 b2 b3 b4 d1 d2 d3 (ix2 t l) = k0_pay24 a1 a2 a3 a4 b1 b2 b3 b4 d1 d2 d3 (ix2 t 0) then
            e (ix2 0 l) + min (Ideal.logistic (a0 (ix2 0 l))) (Ideal.ofBits FTy.f32 1065017672#32)
          else Ideal.ofBits FTy.f32 1315859240#32) Finset.univ := by
  unfold k0_pay25 k0_pay22
  pointwise
/-- Conversion to words acts entry by entry. -/
theorem fptosi_at (x : FVec Ideal S200x1 .f32) (j : S200x1.Idx) : (fptosi 32 x : IVec S200x1 32) j = FloatOps.fptosi (F := Ideal) (φ := FTy.f32) 32 (x j) := rfl
/-- The floor acts entry by entry. -/
theorem floor_at (x : FVec Ideal S200x1 .f32) (j : S200x1.Idx) : (floor x : FVec Ideal S200x1 .f32) j = Ideal.liftRound Int.floor (x j) := rfl
/-- Subtraction acts entry by entry. -/
theorem subf_at (x y : FVec Ideal S200x1 .f32) (j : S200x1.Idx) : (subf x y : FVec Ideal S200x1 .f32) j = x j - y j := rfl
/-- Comparison acts entry by entry. -/
theorem cmpf_at (x y : FVec Ideal S200x1 .f32) (j : S200x1.Idx) : (cmpf .ogt x y : IVec S200x1 1) j = BitVec.ofBool (decide (y j < x j)) := rfl
/-- The place, as a word. -/
theorem pay29_at : k0_pay29 a0 a1 a2 a3 a4 b1 b2 b3 b4 d1 d2 d3 e (ix2 t 0) = FloatOps.fptosi (F := Ideal) (φ := FTy.f32) 32 (Ideal.liftRound Int.floor (k0_pay25 a0 a1 a2 a3 a4 b1 b2 b3 b4 d1 d2 d3 e (ix2 t 0))) := by
  unfold k0_pay29 k0_pay26
  rw [fptosi_at, floor_at]
/-- The score. -/
theorem pay27_at : k0_pay27 a0 a1 a2 a3 a4 b1 b2 b3 b4 d1 d2 d3 e (ix2 t 0) = k0_pay25 a0 a1 a2 a3 a4 b1 b2 b3 b4 d1 d2 d3 e (ix2 t 0) - Ideal.liftRound Int.floor (k0_pay25 a0 a1 a2 a3 a4 b1 b2 b3 b4 d1 d2 d3 e (ix2 t 0)) := by
  unfold k0_pay27 k0_pay26
  rw [subf_at, floor_at]
/-- Whether the best exceeds the best so far. -/
theorem pay28_at : k0_pay28 a1 a2 a3 a4 b1 b2 b3 b4 d1 d2 d3 M (ix2 t 0) = BitVec.ofBool (decide (M (ix2 t 0) < k0_pay24 a1 a2 a3 a4 b1 b2 b3 b4 d1 d2 d3 (ix2 t 0))) := by
  unfold k0_pay28
  rw [cmpf_at]
/-- The new best is selected entry by entry. -/
theorem pay6_at (u w : FVec Ideal S200x1 .f32) (c : IVec S200x1 1) : k0_pay6 u c w (ix2 t 0) = Scalar.select (c (ix2 t 0)) (u (ix2 t 0)) (w (ix2 t 0)) := by
  unfold k0_pay6
  pointwise
/-- The new score is selected entry by entry. -/
theorem pay7_at (u w : FVec Ideal S200x1 .f32) (c : IVec S200x1 1) : k0_pay7 u c w (ix2 t 0) = Scalar.select (c (ix2 t 0)) (u (ix2 t 0)) (w (ix2 t 0)) := by
  unfold k0_pay7
  pointwise
/-- The new place is selected entry by entry. -/
theorem pay5_at (u w : IVec S200x1 32) (c : IVec S200x1 1) : k0_pay5 (F := Ideal) c u w (ix2 t 0) = Scalar.select (c (ix2 t 0)) (u (ix2 t 0)) (w (ix2 t 0)) := by
  unfold k0_pay5
  pointwise
/-- The lanes sum the scores. -/
theorem pay23_at (l : Fin 8192) : k0_pay23 a0 e (ix2 0 l) = e (ix2 0 l) + Ideal.logistic (a0 (ix2 0 l)) := by
  unfold k0_pay23 k0_pay22
  pointwise
/-- A reshape to the same shape. -/
theorem pay13_at (l : Fin 8192) : k0_pay13 e (ix2 0 l) = e (ix2 0 l) := by
  unfold k0_pay13
  pointwise

end Cert.KernelIdeal.Value
end
-- ==== Proof.Step.lean ====
/-
  One step of the kernel on a block: the overlaps of the block, each truth's best of them, its place and its score, and what
  the step leaves in the four scratch arrays.
-/
module

public import proofs.«01_k».proof.Proof.Pay

@[expose] public section
set_option maxRecDepth 16384

noncomputable section
namespace Cert.KernelIdeal.Value
open Cert.KernelIdeal Cert.KernelIdeal.Gen Idealize.ShloMosaic Idealize.ShloMosaic.TcCoe Idealize.SL.Sem
open Idealize.ShloMosaic.Pipeline (Dat)

/-- A maximum of real numbers is that of their extended ones. -/
theorem coe_max (a b : ℝ) : ((max a b : ℝ) : EReal) = max (a : EReal) b := EReal.coe_strictMono.monotone.map_max
/-- A choice by the word of a decided proposition is the choice by the proposition. -/
theorem select_ofBool {α : Type} (p : Prop) [Decidable p] (x y : α) :
    Scalar.select (BitVec.ofBool (decide p)) x y = if p then x else y := by
  by_cases h : p <;> simp [h, Scalar.select]
/-- A minimum of real numbers is that of their extended ones. -/
theorem coe_min (a b : ℝ) : ((min a b : ℝ) : EReal) = min (a : EReal) b := EReal.coe_strictMono.monotone.map_min

section
variable (x0 : Vec Ideal S8x8192 .f32) (x1 : Vec Ideal S200x4 .f32)

/-- The block's rows. -/
abbrev r0 : Vec Ideal S1x8192 .f32 := View.ld x0 (Rect.unit ![0, 0] ![1, 8192] inb_S8x8192_S1x8192_0_0)
/-- Row 1 of a block. -/
abbrev r1 : Vec Ideal S1x8192 .f32 := View.ld x0 (Rect.unit ![1, 0] ![1, 8192] inb_S8x8192_S1x8192_1_0)
/-- Row 2 of a block. -/
abbrev r2 : Vec Ideal S1x8192 .f32 := View.ld x0 (Rect.unit ![2, 0] ![1, 8192] inb_S8x8192_S1x8192_2_0)
/-- Row 3 of a block. -/
abbrev r3 : Vec Ideal S1x8192 .f32 := View.ld x0 (Rect.unit ![3, 0] ![1, 8192] inb_S8x8192_S1x8192_3_0)
/-- Row 4 of a block. -/
abbrev r4 : Vec Ideal S1x8192 .f32 := View.ld x0 (Rect.unit ![4, 0] ![1, 8192] inb_S8x8192_S1x8192_4_0)
/-- Row 5 of a block. -/
abbrev r5 : Vec Ideal S1x8192 .f32 := View.ld x0 (Rect.unit ![5, 0] ![1, 8192] inb_S8x8192_S1x8192_5_0)
/-- The truths' columns. -/
abbrev c0 : Vec Ideal S200x1 .f32 := View.ld x1 (Rect.unit ![0, 0] ![200, 1] inb_S200x4_S200x1_0_0)
/-- Column 1 of the truths. -/
abbrev c1 : Vec Ideal S200x1 .f32 := View.ld x1 (Rect.unit ![0, 1] ![200, 1] inb_S200x4_S200x1_0_1)
/-- Column 2 of the truths. -/
abbrev c2 : Vec Ideal S200x1 .f32 := View.ld x1 (Rect.unit ![0, 2] ![200, 1] inb_S200x4_S200x1_0_2)
/-- Column 3 of the truths. -/
abbrev c3 : Vec Ideal S200x1 .f32 := View.ld x1 (Rect.unit ![0, 3] ![200, 1] inb_S200x4_S200x1_0_3)

/-- The block's overlaps. -/
abbrev ovl : FVec Ideal S200x8192 .f32 :=
  k0_pay21 (k0_pay14 (r0 x0) (r2 x0)) (k0_pay15 (r1 x0) (r3 x0)) (k0_pay16 (r0 x0) (r2 x0)) (k0_pay17 (r1 x0) (r3 x0))
    (c0 x1) (c1 x1) (c2 x1) (c3 x1) (k0_pay18 (r0 x0) (r2 x0) (c0 x1) (c2 x1)) (k0_pay19 (c3 x1)) (k0_pay20 (r1 x0) (r3 x0))

/-- The best overlap of each truth in the block. -/
abbrev top : FVec Ideal S200x1 .f32 :=
  k0_pay24 (k0_pay14 (r0 x0) (r2 x0)) (k0_pay15 (r1 x0) (r3 x0)) (k0_pay16 (r0 x0) (r2 x0)) (k0_pay17 (r1 x0) (r3 x0))
    (c0 x1) (c1 x1) (c2 x1) (c3 x1) (k0_pay18 (r0 x0) (r2 x0) (c0 x1) (c2 x1)) (k0_pay19 (c3 x1)) (k0_pay20 (r1 x0) (r3 x0))

/-- The place and the score of that best one, as one number. -/
abbrev both : FVec Ideal S200x1 .f32 :=
  k0_pay25 (k0_pay13 (r4 x0)) (k0_pay14 (r0 x0) (r2 x0)) (k0_pay15 (r1 x0) (r3 x0)) (k0_pay16 (r0 x0) (r2 x0)) (k0_pay17 (r1 x0) (r3 x0))
    (c0 x1) (c1 x1) (c2 x1) (c3 x1) (k0_pay18 (r0 x0) (r2 x0) (c0 x1) (c2 x1)) (k0_pay19 (c3 x1)) (k0_pay20 (r1 x0) (r3 x0)) (r5 x0)

/-- Where the block's best exceeds the best so far. -/
abbrev better (M : Vec Ideal S200x1 .f32) : IVec S200x1 1 :=
  k0_pay28 (k0_pay14 (r0 x0) (r2 x0)) (k0_pay15 (r1 x0) (r3 x0)) (k0_pay16 (r0 x0) (r2 x0)) (k0_pay17 (r1 x0) (r3 x0))
    (c0 x1) (c1 x1) (c2 x1) (c3 x1) (k0_pay18 (r0 x0) (r2 x0) (c0 x1) (c2 x1)) (k0_pay19 (c3 x1)) (k0_pay20 (r1 x0) (r3 x0)) M

/-- The best overlap so far after the block. -/
abbrev nextM (M : Vec Ideal S200x1 .f32) : FVec Ideal S200x1 .f32 := k0_pay6 (top x0 x1) (better x0 x1 M) M
/-- Its place. -/
abbrev nextI (M : Vec Ideal S200x1 .f32) (I : Vec Ideal S200x1 .i32) : IVec S200x1 32 :=
  k0_pay5 (better x0 x1 M) (k0_pay29 (k0_pay13 (r4 x0)) (k0_pay14 (r0 x0) (r2 x0)) (k0_pay15 (r1 x0) (r3 x0)) (k0_pay16 (r0 x0) (r2 x0)) (k0_pay17 (r1 x0) (r3 x0))
    (c0 x1) (c1 x1) (c2 x1) (c3 x1) (k0_pay18 (r0 x0) (r2 x0) (c0 x1) (c2 x1)) (k0_pay19 (c3 x1)) (k0_pay20 (r1 x0) (r3 x0)) (r5 x0)) I
/-- Its score. -/
abbrev nextG (M G : Vec Ideal S200x1 .f32) : FVec Ideal S200x1 .f32 :=
  k0_pay7 (k0_pay27 (k0_pay13 (r4 x0)) (k0_pay14 (r0 x0) (r2 x0)) (k0_pay15 (r1 x0) (r3 x0)) (k0_pay16 (r0 x0) (r2 x0)) (k0_pay17 (r1 x0) (r3 x0))
    (c0 x1) (c1 x1) (c2 x1) (c3 x1) (k0_pay18 (r0 x0) (r2 x0) (c0 x1) (c2 x1)) (k0_pay19 (c3 x1)) (k0_pay20 (r1 x0) (r3 x0)) (r5 x0)) (better x0 x1 M) G
/-- The lanes' sums of scores. -/
abbrev nextS (S : Vec Ideal S1x8192 .f32) : FVec Ideal S1x8192 .f32 := k0_pay23 (k0_pay13 (r4 x0)) S

end

section
variable (x0 : Vec Ideal S8x8192 .f32) (x1 : Vec Ideal S200x4 .f32)
/-- Where the block's best exceeds the best so far, at a truth. -/
theorem better_at (M : Vec Ideal S200x1 .f32) (t : Fin 200) :
    better x0 x1 M (ix2 t 0) = BitVec.ofBool (decide (M (ix2 t 0) < top x0 x1 (ix2 t 0))) := pay28_at ..
/-- An entry of row 0. -/
theorem r0_at (l : Fin 8192) : r0 x0 (ix2 0 l) = x0 (ix2 0 l) := by unfold r0; pointwise
/-- An entry of row 1. -/
theorem r1_at (l : Fin 8192) : r1 x0 (ix2 0 l) = x0 (ix2 1 l) := by unfold r1; pointwise
/-- An entry of row 2. -/
theorem r2_at (l : Fin 8192) : r2 x0 (ix2 0 l) = x0 (ix2 2 l) := by unfold r2; pointwise
/-- An entry of row 3. -/
theorem r3_at (l : Fin 8192) : r3 x0 (ix2 0 l) = x0 (ix2 3 l) := by unfold r3; pointwise
/-- An entry of row 4. -/
theorem r4_at (l : Fin 8192) : r4 x0 (ix2 0 l) = x0 (ix2 4 l) := by unfold r4; pointwise
/-- An entry of row 5. -/
theorem r5_at (l : Fin 8192) : r5 x0 (ix2 0 l) = x0 (ix2 5 l) := by unfold r5; pointwise
/-- An entry of column 0. -/
theorem c0_at (t : Fin 200) : c0 x1 (ix2 t 0) = x1 (ix2 t 0) := by unfold c0; pointwise
/-- An entry of column 1. -/
theorem c1_at (t : Fin 200) : c1 x1 (ix2 t 0) = x1 (ix2 t 1) := by unfold c1; pointwise
/-- An entry of column 2. -/
theorem c2_at (t : Fin 200) : c2 x1 (ix2 t 0) = x1 (ix2 t 2) := by unfold c2; pointwise
/-- An entry of column 3. -/
theorem c3_at (t : Fin 200) : c3 x1 (ix2 t 0) = x1 (ix2 t 3) := by unfold c3; pointwise
end

section
variable {A0 : Data.Mat 100000 2} {A1 : Data.Mat 100000 3} {A2 : Data.Mat 200 4} (b : Data.Bounds A0 A1 A2)
variable {n : ℕ} {x0 : Vec Ideal S8x8192 .f32} {x1 : Vec Ideal S200x4 .f32} (hx : Block A0 A1 n x0)
variable (ht : ∀ (t : Fin 200) (k : Fin 4), x1 (ix2 t k) = (Data.corner A2 t k : EReal))
include b hx ht

/-- A block's overlap is the one of the truth and the prior at that place. -/
theorem ovl_at (t : Fin 200) (l : Fin 8192) :
    ovl x0 x1 (ix2 t l) = (Data.ov A0 A1 A2 t (8192 * n + l.val) : EReal) := by
  unfold ovl
  unfold_payloads
  pointwise
  rw [r0_at, r1_at, r2_at, r3_at, c0_at, c1_at, c2_at, c3_at]
  simp only [ht, hx.cx, hx.cy, hx.w, hx.h, Consts.half]
  simp only [← EReal.coe_add, ← EReal.coe_sub, ← EReal.coe_mul, ← coe_max, ← coe_min, ← EReal.coe_zero]
  have hu := Spec.union_ne (cx := Data.col A0 0 (8192 * n + l.val)) (cy := Data.col A0 1 (8192 * n + l.val))
    (Data.sized b t (8192 * n + l.val))
  have side : ∀ c w : ℝ, c + w * (1 / 2) - (c - w * (1 / 2)) = w := fun c w => by ring
  rw [side, side]
  exact (Ideal.div_coe hu _).trans (by
    rw [← EReal.coe_mul, ← div_eq_mul_one_div]; rfl)

/-- The block's best of a truth is the overlap at the first place it is greatest. -/
theorem top_at (t : Fin 200) (i : ℕ) (hi : Spec.First (fun l => Data.ov A0 A1 A2 t (8192 * n + l)) 8192 i) :
    top x0 x1 (ix2 t 0) = (Data.ov A0 A1 A2 t (8192 * n + i) : EReal) := by
  have e : top x0 x1 (ix2 t 0)
      = Finset.fold max (Ideal.ofBits FTy.f32 4286578688#32) (fun l : Fin 8192 => ovl x0 x1 (ix2 t l)) Finset.univ := by
    exact pay24_at ..
  rw [e, Spec.fold_max_at _ _ (⟨i, hi.lt⟩ : Fin 8192) (by rw [Consts.bot]; exact bot_le)]
  · exact ovl_at b hx ht t ⟨i, hi.lt⟩
  · intro l
    rw [ovl_at b hx ht, ovl_at b hx ht]
    exact EReal.coe_le_coe_iff.2 (hi.le l.val l.isLt)

/-- The least of place plus score over the places where the overlap is the best. -/
theorem both_at (hn : n < 13) (t : Fin 200) (i : ℕ) (hi : Spec.First (fun l => Data.ov A0 A1 A2 t (8192 * n + l)) 8192 i) :
    both x0 x1 (ix2 t 0) = ((((8192 * n + i : ℕ) : ℝ) + Data.sg A1 (8192 * n + i) : ℝ) : EReal) := by
  have e : both x0 x1 (ix2 t 0)
      = Finset.fold min (Ideal.ofBits FTy.f32 2139095040#32) (fun l : Fin 8192 =>
          if ovl x0 x1 (ix2 t l) = top x0 x1 (ix2 t 0) then
            r5 x0 (ix2 0 l) + min (Ideal.logistic (r4 x0 (ix2 0 l))) (Ideal.ofBits FTy.f32 1065017672#32)
          else Ideal.ofBits FTy.f32 1315859240#32) Finset.univ := by
    refine (pay25_at ..).trans ?_
    simp only [pay13_at]
  obtain ⟨cap, hc0, hc1, hc⟩ := Consts.cap
  have hs : ∀ p, Data.sg A1 p ≤ 16 / 17 := Data.sg_le b
  have val : ∀ l : Fin 8192, (if ovl x0 x1 (ix2 t l) = top x0 x1 (ix2 t 0) then
            r5 x0 (ix2 0 l) + min (Ideal.logistic (r4 x0 (ix2 0 l))) (Ideal.ofBits FTy.f32 1065017672#32)
          else Ideal.ofBits FTy.f32 1315859240#32)
      = ((if Data.ov A0 A1 A2 t (8192 * n + l.val) = Data.ov A0 A1 A2 t (8192 * n + i) then
            (((8192 * n + l.val : ℕ) : ℝ) + Data.sg A1 (8192 * n + l.val)) else 10 ^ 9 : ℝ) : EReal) := by
    intro l
    rw [ovl_at b hx ht, top_at b hx ht t i hi, r5_at, r4_at, hx.place, hx.conf, hc, Consts.big, ← coe_min,
      min_eq_left (by linarith [hs (8192 * n + l.val)]), ← EReal.coe_add]
    simp only [EReal.coe_eq_coe_iff]
    split
    · rfl
    · norm_num
  rw [e]
  simp only [val]
  rw [Spec.fold_min_at _ _ (⟨i, hi.lt⟩ : Fin 8192) (by rw [Consts.top]; exact le_top)]
  · simp
  · intro l
    rw [EReal.coe_le_coe_iff, if_pos rfl]
    have h1 := hs (8192 * n + i)
    have h2 := Data.sg_nonneg b (8192 * n + l.val)
    split
    · rename_i he
      rcases Nat.lt_trichotomy l.val i with h | h | h
      · exact absurd he (ne_of_lt (hi.before l.val h))
      · rw [h]
      · have h3 : ((8192 * n + i : ℕ) : ℝ) + 1 ≤ ((8192 * n + l.val : ℕ) : ℝ) := by exact_mod_cast (by omega : 8192 * n + i + 1 ≤ 8192 * n + l.val)
        show ((8192 * n + i : ℕ) : ℝ) + Data.sg A1 (8192 * n + i) ≤ _
        linarith
    · have h3 : ((8192 * n + i : ℕ) : ℝ) ≤ 106496 := by
        have := hi.lt
        exact_mod_cast (by omega : 8192 * n + i ≤ 106496)
      show ((8192 * n + i : ℕ) : ℝ) + Data.sg A1 (8192 * n + i) ≤ _
      linarith

/-- The floor of place plus score is the place. -/
theorem floor_both (p : ℕ) : Ideal.liftRound Int.floor (((p : ℝ) + Data.sg A1 p : ℝ) : EReal) = ((p : ℝ) : EReal) := by
  have h0 := Data.sg_nonneg b p
  have h1 := Data.sg_le b p
  have e : ⌊(p : ℝ) + Data.sg A1 p⌋ = (p : ℤ) := by
    rw [Int.floor_eq_iff]
    constructor
    · push_cast; linarith
    · push_cast; linarith
  show (((⌊(p : ℝ) + Data.sg A1 p⌋ : ℤ) : ℝ) : EReal) = _
  rw [e]; simp

section
variable (hn : n < 13) (t : Fin 200) (i : ℕ) (hi : Spec.First (fun l => Data.ov A0 A1 A2 t (8192 * n + l)) 8192 i)
variable (M : Vec Ideal S200x1 .f32) (μ : ℝ) (hM : M (ix2 t 0) = (μ : EReal))
include hn hi hM

/-- The best overlap after a block: the block's if it is greater. -/
theorem nextM_at : nextM x0 x1 M (ix2 t 0)
    = ((if μ < Data.ov A0 A1 A2 t (8192 * n + i) then Data.ov A0 A1 A2 t (8192 * n + i) else μ : ℝ) : EReal) := by
  have e : nextM x0 x1 M (ix2 t 0) = if M (ix2 t 0) < top x0 x1 (ix2 t 0) then top x0 x1 (ix2 t 0) else M (ix2 t 0) := by
    refine (pay6_at ..).trans ?_
    rw [better_at, select_ofBool]
  rw [e, top_at b hx ht t i hi, hM]
  simp only [EReal.coe_lt_coe_iff]
  split <;> rfl

/-- The best place after a block: the block's first best if its overlap is greater. -/
theorem nextI_at (I : Vec Ideal S200x1 .i32) : nextI x0 x1 M I (ix2 t 0)
    = if μ < Data.ov A0 A1 A2 t (8192 * n + i) then BitVec.ofNat 32 (8192 * n + i) else I (ix2 t 0) := by
  have e : nextI x0 x1 M I (ix2 t 0) = if M (ix2 t 0) < top x0 x1 (ix2 t 0) then
      FloatOps.fptosi (F := Ideal) (φ := FTy.f32) 32 (Ideal.liftRound Int.floor (both x0 x1 (ix2 t 0))) else I (ix2 t 0) := by
    refine (pay5_at ..).trans ?_
    rw [better_at, pay29_at, select_ofBool]
  rw [e, top_at b hx ht t i hi, hM, both_at b hx ht hn t i hi, floor_both b hx ht, Consts.word_of_float]
  · simp only [EReal.coe_lt_coe_iff]
  · have := hi.lt
    omega

/-- The kept score after a block: the one at the block's first best place if its overlap is greater. -/
theorem nextG_at (G : Vec Ideal S200x1 .f32) (g : ℝ) (hG : G (ix2 t 0) = (g : EReal)) : nextG x0 x1 M G (ix2 t 0)
    = ((if μ < Data.ov A0 A1 A2 t (8192 * n + i) then Data.sg A1 (8192 * n + i) else g : ℝ) : EReal) := by
  have e : nextG x0 x1 M G (ix2 t 0) = if M (ix2 t 0) < top x0 x1 (ix2 t 0) then
      both x0 x1 (ix2 t 0) - Ideal.liftRound Int.floor (both x0 x1 (ix2 t 0)) else G (ix2 t 0) := by
    refine (pay7_at ..).trans ?_
    rw [better_at, pay27_at, select_ofBool]
  rw [e, top_at b hx ht t i hi, hM, hG, both_at b hx ht hn t i hi, floor_both b hx ht, ← EReal.coe_sub, add_sub_cancel_left]
  simp only [EReal.coe_lt_coe_iff]
  split <;> rfl

end

omit b ht in
/-- A lane's sum of scores after a block. -/
theorem nextS_at (S : Vec Ideal S1x8192 .f32) (l : Fin 8192) (r : ℝ) (hS : S (ix2 0 l) = (r : EReal)) :
    nextS x0 S (ix2 0 l) = ((r + Data.sg A1 (8192 * n + l.val) : ℝ) : EReal) := by
  have e : nextS x0 S (ix2 0 l) = S (ix2 0 l) + Ideal.logistic (r4 x0 (ix2 0 l)) := by
    refine (pay23_at ..).trans ?_
    rw [pay13_at]
  rw [e, r4_at, hx.conf, hS, EReal.coe_add]

end
end Cert.KernelIdeal.Value
end
-- ==== Proof.Cases.lean ====
/-
  What each of the three kinds of grid points leaves: the first point starts the four scratch arrays, the following ones
  step them, the last forms the result from them.
-/
module

public import proofs.«01_k».proof.Proof.Step
public import Idealize.ShloMosaic.Lib.Pipeline.ReadBack

@[expose] public section
set_option maxRecDepth 16384

noncomputable section
namespace Cert.KernelIdeal.Value
open Cert.KernelIdeal Cert.KernelIdeal.Gen Idealize.ShloMosaic Idealize.ShloMosaic.TcCoe Idealize.SL.Sem
open Idealize.ShloMosaic.Pipeline (Dat)

/-- The four scratch arrays: best overlap, its place, its score, the lanes' sums. -/
abbrev Scratch : Type := Vec Ideal S200x1 .f32 × Vec Ideal S200x1 .i32 × Vec Ideal S200x1 .f32 × Vec Ideal S1x8192 .f32

/-- One step of the four scratch arrays on a block. -/
abbrev step (x0 : Vec Ideal S8x8192 .f32) (x1 : Vec Ideal S200x4 .f32) (s : Scratch) : Scratch :=
  (nextM x0 x1 s.1, nextI x0 x1 s.1 s.2.1, nextG x0 x1 s.1 s.2.2.1, nextS x0 s.2.2.2)

/-- What the first point starts from. -/
abbrev start : Scratch := (k0_pay1 (F := Ideal), k0_pay2, k0_pay3 (F := Ideal), k0_pay4 (F := Ideal))

variable (m : (l : Loc nD τ sig) → Buf (Elt Ideal) l)

/-- A middle point steps the scratch arrays. -/
theorem point_mid (c : Dev nD) (t : Fin cfg0.N) (acc : Vec Ideal S1x1 .f32 × Scratch) (h0 : ¬t.val % 14 = 0) (h1 : t.val < 13)
    (h2 : ¬t.val % 14 = 13) : (stAt0 m c t.val t.isLt acc).2 = step (iblk m c 0 t) (iblk m c 1 t) acc.2 := by
  rw [stAt0_B m c t acc h0 h1 h2]
  generalize iblk m c 0 t = x0
  generalize iblk m c 1 t = x1
  obtain ⟨o, a, b, d, e⟩ := acc
  dsimp only
  frame_out
  simp only [read_unread_whole]

/-- The first point steps them from the start. -/
theorem point_first (c : Dev nD) (t : Fin cfg0.N) (acc : Vec Ideal S1x1 .f32 × Scratch) (h0 : t.val % 14 = 0) (h1 : t.val < 13)
    (h2 : ¬t.val % 14 = 13) : (stAt0 m c t.val t.isLt acc).2 = step (iblk m c 0 t) (iblk m c 1 t) start := by
  rw [stAt0_A m c t acc h0 h1 h2]
  generalize iblk m c 0 t = x0
  generalize iblk m c 1 t = x1
  dsimp only
  frame_out

/-- The last point forms the result. -/
theorem point_last (c : Dev nD) (t : Fin cfg0.N) (acc : Vec Ideal S1x1 .f32 × Scratch) (h0 : ¬t.val % 14 = 0) (h1 : ¬t.val < 13)
    (h2 : t.val % 14 = 13) : (stAt0 m c t.val t.isLt acc).1 =
      k0_pay8 (k0_pay31 (F := Ideal) acc.2.2.1) (k0_pay32 acc.2.2.1 acc.2.2.2.1 acc.2.1) (k0_pay33 acc.2.2.2.2) := by
  rw [stAt0_C m c t acc h0 h1 h2]
  generalize iblk m c 0 t = x0
  generalize iblk m c 1 t = x1
  obtain ⟨o, a, b, d, e⟩ := acc
  dsimp only
  frame_out
  simp only [read_unread_whole]

end Cert.KernelIdeal.Value
end
-- ==== Proof.Sweep.lean ====
/-
  The kernel's sweep: after each block the scratch arrays hold, for every truth, its best overlap among the places seen, the
  first place of it and the score there, and in each lane the sum of the scores seen.
-/
module

public import proofs.«01_k».proof.Proof.Cases

@[expose] public section
set_option maxRecDepth 16384

noncomputable section
namespace Cert.KernelIdeal.Value
open Cert.KernelIdeal Cert.KernelIdeal.Gen Idealize.ShloMosaic Idealize.ShloMosaic.TcCoe Idealize.SL.Sem
open Idealize.ShloMosaic.Pipeline (Dat)

/-- What the three columns hold for one truth with overlaps `f` and scores `g` after `N` places. -/
def Best (f g : ℕ → ℝ) (N : ℕ) (vM : EReal) (vI : BitVec 32) (vG : EReal) : Prop :=
  ∃ i, Spec.First f N i ∧ vM = (f i : EReal) ∧ vI = BitVec.ofNat 32 i ∧ vG = (g i : EReal)

/-- A further block of places. -/
theorem Best.join {f g : ℕ → ℝ} {N : ℕ} {vM wM : EReal} {vI wI : BitVec 32} {vG wG : EReal} (h : Best f g N vM vI vG)
    (hn : ∀ i j, Spec.First f N i → Spec.First (fun l => f (N + l)) 8192 j → vM = (f i : EReal) → vG = (g i : EReal) →
      wM = ((if f i < f (N + j) then f (N + j) else f i : ℝ) : EReal) ∧
      wI = (if f i < f (N + j) then BitVec.ofNat 32 (N + j) else vI) ∧
      wG = ((if f i < f (N + j) then g (N + j) else g i : ℝ) : EReal)) : Best f g (N + 8192) wM wI wG := by
  obtain ⟨i, hi, hM, hI, hG⟩ := h
  obtain ⟨j, hj⟩ := Spec.First.ex (fun l => f (N + l)) 8192 (by decide)
  obtain ⟨h1, h2, h3⟩ := hn i j hi hj hM hG
  have hk := hi.join hj
  by_cases hlt : f i < f (N + j)
  · rw [if_pos hlt] at h1 h2 h3
    rw [if_pos (show f i < f (N + j) from hlt)] at hk
    exact ⟨N + j, hk, h1, h2, h3⟩
  · rw [if_neg hlt] at h1 h2 h3
    rw [if_neg (show ¬ f i < f (N + j) from hlt)] at hk
    exact ⟨i, hk, h1, h2.trans hI, h3⟩

/-- The first block of places. -/
theorem Best.first {f g : ℕ → ℝ} (h0 : ∀ p, 0 ≤ f p) {wM : EReal} {wI vI : BitVec 32} {wG : EReal}
    (hn : ∀ j, Spec.First (fun l => f (8192 * 0 + l)) 8192 j →
      wM = ((if -1 < f (8192 * 0 + j) then f (8192 * 0 + j) else -1 : ℝ) : EReal) ∧
      wI = (if -1 < f (8192 * 0 + j) then BitVec.ofNat 32 (8192 * 0 + j) else vI) ∧
      wG = ((if -1 < f (8192 * 0 + j) then g (8192 * 0 + j) else 0 : ℝ) : EReal)) : Best f g 8192 wM wI wG := by
  obtain ⟨j, hj⟩ := Spec.First.ex (fun l => f (8192 * 0 + l)) 8192 (by decide)
  obtain ⟨h1, h2, h3⟩ := hn j hj
  have hlt : (-1 : ℝ) < f (8192 * 0 + j) := lt_of_lt_of_le (by norm_num) (h0 _)
  rw [if_pos hlt] at h1 h2 h3
  have hz : 8192 * 0 + j = j := by omega
  rw [hz] at h1 h2 h3
  refine ⟨j, ?_, h1, h2, h3⟩
  simpa using hj

section
variable (A0 : Data.Mat 100000 2) (A1 : Data.Mat 100000 3) (A2 : Data.Mat 200 4)

/-- What the scratch arrays hold after `n` blocks. -/
structure Holds (n : ℕ) (M : Vec Ideal S200x1 .f32) (I : IVec S200x1 32) (G : Vec Ideal S200x1 .f32) (S : Vec Ideal S1x8192 .f32) : Prop where
  best : ∀ t : Fin 200, Best (Data.ov A0 A1 A2 t) (Data.sg A1) (8192 * n) (M (ix2 t 0)) (I (ix2 t 0)) (G (ix2 t 0))
  lanes : ∀ l : Fin 8192, S (ix2 0 l) = ((∑ k ∈ Finset.range n, Data.sg A1 (8192 * k + l.val) : ℝ) : EReal)

/-- `Holds` of the four arrays of a tuple. -/
def HoldsAll (n : ℕ) (s : Scratch) : Prop :=
  Holds A0 A1 A2 n s.1 s.2.1 s.2.2.1 s.2.2.2

end

section
variable {A0 : Data.Mat 100000 2} {A1 : Data.Mat 100000 3} {A2 : Data.Mat 200 4} (b : Data.Bounds A0 A1 A2)
variable {n : ℕ} {x0 : Vec Ideal S8x8192 .f32} {x1 : Vec Ideal S200x4 .f32}
variable (ht : ∀ (t : Fin 200) (k : Fin 4), x1 (ix2 t k) = (Data.corner A2 t k : EReal))
include b ht

/-- A later block. -/
theorem holds_step (hn : n < 13) (hx : Block A0 A1 n x0) (M : Vec Ideal S200x1 .f32) (I : IVec S200x1 32)
    (G : Vec Ideal S200x1 .f32) (S : Vec Ideal S1x8192 .f32) (h : Holds A0 A1 A2 n M I G S) :
    Holds A0 A1 A2 (n + 1) (nextM x0 x1 M) (nextI x0 x1 M I) (nextG x0 x1 M G) (nextS x0 S) := by
  constructor
  · intro t
    refine (h.best t).join fun i j hi hj hM hG => ⟨?_, ?_, ?_⟩
    · rw [nextM_at b hx ht hn t j hj M _ hM]
    · rw [nextI_at b hx ht hn t j hj M _ hM I]
    · rw [nextG_at b hx ht hn t j hj M _ hM G _ hG]
  · intro l
    rw [nextS_at hx S l _ (h.lanes l), Finset.sum_range_succ]

/-- The first block. -/
theorem holds_first (hx : Block A0 A1 0 x0) : Holds A0 A1 A2 1 (nextM x0 x1 (k0_pay1 (F := Ideal)))
    (nextI x0 x1 (k0_pay1 (F := Ideal)) k0_pay2) (nextG x0 x1 (k0_pay1 (F := Ideal)) (k0_pay3 (F := Ideal))) (nextS x0 (k0_pay4 (F := Ideal))) := by
  constructor
  · intro t
    have hM : (k0_pay1 (F := Ideal)) (ix2 t 0) = ((-1 : ℝ) : EReal) := by
      have e : (k0_pay1 (F := Ideal)) (ix2 t 0) = Ideal.ofBits FTy.f32 3212836864#32 := by unfold k0_pay1; pointwise
      rw [e, Consts.minusOne]
    have hG : (k0_pay3 (F := Ideal)) (ix2 t 0) = ((0 : ℝ) : EReal) := by unfold k0_pay3; pointwise; rfl
    refine Best.first (vI := (k0_pay2) (ix2 t 0)) (fun p => Data.ov_nonneg b t p) fun j hj => ⟨?_, ?_, ?_⟩
    · rw [nextM_at b hx ht (by decide) t j hj _ _ hM]
    · rw [nextI_at b hx ht (by decide) t j hj _ _ hM _]
    · rw [nextG_at b hx ht (by decide) t j hj _ _ hM _ _ hG]
  · intro l
    have hS : (k0_pay4 (F := Ideal)) (ix2 0 l) = ((0 : ℝ) : EReal) := by unfold k0_pay4; pointwise; rfl
    rw [nextS_at hx _ l _ hS]
    simp

/-- A later block, on the tuple. -/
theorem holdsAll_step (hn : n < 13) (hx : Block A0 A1 n x0) (s : Scratch) (h : HoldsAll A0 A1 A2 n s) :
    HoldsAll A0 A1 A2 (n + 1) (step x0 x1 s) := by
  obtain ⟨M, I, G, S⟩ := s
  unfold HoldsAll at h ⊢
  dsimp only at h ⊢
  exact holds_step b ht hn hx M I G S h

/-- The first block, on the tuple. -/
theorem holdsAll_first (hx : Block A0 A1 0 x0) : HoldsAll A0 A1 A2 1 (step x0 x1 start) := by
  unfold HoldsAll
  dsimp only
  exact holds_first b ht hx

end

section
variable (m : (l : Loc nD τ sig) → Buf (Elt Ideal) l) (c : Dev nD)
  (b : Data.Bounds (m ((c : Thread nD τ).loc main_arg0)) (m ((c : Thread nD τ).loc main_arg1))
      (m ((c : Thread nD τ).loc main_arg2)))
include b

/-- After every point before the last. -/
theorem holds_sweep (n : ℕ) (hn : n < 13) : HoldsAll (m ((c : Thread nD τ).loc main_arg0)) (m ((c : Thread nD τ).loc main_arg1))
      (m ((c : Thread nD τ).loc main_arg2)) (n + 1) (outsAt0 m c n (lt_of_lt_of_eq (by omega) N_0.symm)).2 := by
  have ht : ∀ (p : Fin cfg0.N) (t : Fin 200) (k : Fin 4),
      iblk m c 1 p (ix2 t k) = (Data.corner (m ((c : Thread nD τ).loc main_arg2)) t k : EReal) := fun p t k =>
    (truth_entry m c p t k).trans (Data.corner_eq b t k)
  induction n with
  | zero =>
    have hN : 0 < cfg0.N := lt_of_lt_of_eq (by decide) N_0.symm
    have h13 : (⟨0, hN⟩ : Fin cfg0.N).val < 13 := by show 0 < 13; decide
    have e := point_first m c ⟨0, hN⟩ junk0 (Nat.zero_mod _) h13 (by show ¬ 0 % 14 = 13; decide)
    rw [outsAt0_zero, e]
    exact holdsAll_first b (ht _) (block m c b ⟨0, hN⟩ h13)
  | succ n ih =>
    have hN : n + 1 < cfg0.N := lt_of_lt_of_eq (by omega) N_0.symm
    have h := ih (by omega)
    rw [outsAt0_succ]
    have e := point_mid m c ⟨n + 1, hN⟩ (outsAt0 m c n (Nat.lt_of_succ_lt hN)) (by show ¬ (n + 1) % 14 = 0; omega)
      (by show n + 1 < 13; omega) (by show ¬ (n + 1) % 14 = 13; omega)
    rw [e]
    exact holdsAll_step b (ht _) hn (block m c b ⟨n + 1, hN⟩ hn) _ h

/-- The kernel's result, from the scratch arrays after the thirteen blocks. -/
theorem result_of_sweep : ∃ s : Scratch, HoldsAll (m ((c : Thread nD τ).loc main_arg0)) (m ((c : Thread nD τ).loc main_arg1))
      (m ((c : Thread nD τ).loc main_arg2)) 13 s
    ∧ G2 m c = k0_pay8 (k0_pay31 (F := Ideal) s.2.1) (k0_pay32 s.2.1 s.2.2.1 s.1) (k0_pay33 s.2.2.2) := by
  have hN : 13 < cfg0.N := lt_of_lt_of_eq (by decide) N_0.symm
  have hN' : 12 < cfg0.N := Nat.lt_of_succ_lt hN
  have e := point_last m c ⟨13, hN⟩ (outsAt0 m c 12 hN') (by show ¬ 13 % 14 = 0; decide)
      (by show ¬ 13 < 13; decide) (by show 13 % 14 = 13; decide)
  have e' : G2 m c = (outsAt0 m c 13 hN).1 := by rw [G2_last, ← outsAt0_sweep m c 13 hN]
  have e'' : (outsAt0 m c 13 hN).1 = (stAt0 m c 13 hN (outsAt0 m c 12 hN')).1 := congrArg Prod.fst (outsAt0_succ m c 12 hN)
  exact ⟨(outsAt0 m c 12 hN').2, holds_sweep m c b 12 (by decide), e'.trans (e''.trans e)⟩

end

end Cert.KernelIdeal.Value
end
-- ==== Proof.Final.lean ====
/-
  The kernel's last point: each truth that is the last to claim its place counts one, and the result is a quotient of sums
  over those truths and over the lanes.
-/
module

public import proofs.«01_k».proof.Proof.Entry

@[expose] public section
set_option maxRecDepth 16384

noncomputable section
namespace Cert.KernelIdeal.Value
open Cert.KernelIdeal Cert.KernelIdeal.Gen Idealize.ShloMosaic Idealize.ShloMosaic.TcCoe Idealize.SL.Sem
open Idealize.ShloMosaic.Pipeline (Dat)

variable (e : Vec Ideal S200x1 .i32) (f g : Vec Ideal S200x1 .f32) (S : Vec Ideal S1x8192 .f32)

/-- The last step's mark of a truth: 1 less the greatest of the marks of later truths with the same place. -/
theorem pay30_form (t : Fin 200) : k0_pay30 (F := Ideal) e (ix2 t 0)
    = 1 - Finset.fold max (Ideal.ofBits FTy.f32 4286578688#32) (fun x : Fin 200 =>
        Scalar.select (IntOp.andi (BitVec.ofBool (decide (FloatOps.sitofp (F := Ideal) FTy.f32 (e (ix2 t 0))
            = ∑ y : Fin 200, Scalar.select (IntOp.cmpi CmpIPredicate.eq (BitVec.ofNat 32 y.val) (BitVec.ofNat 32 x.val))
                (FloatOps.sitofp (F := Ideal) FTy.f32 (e (ix2 y 0)) : EReal) 0)))
          (IntOp.cmpi CmpIPredicate.sgt (BitVec.ofNat 32 x.val) (BitVec.ofNat 32 t.val))) (1 : EReal) 0) Finset.univ := by
  unfold k0_pay30
  pointwise

/-- The number of marked truths. -/
theorem pay31_form : k0_pay31 (F := Ideal) e = ∑ t : Fin 200, k0_pay30 (F := Ideal) e (ix2 t 0) := by
  unfold k0_pay31
  pointwise
  simp

/-- The marked truths' scores times the logarithms of their overlaps, summed and weighted. -/
theorem pay32_form : k0_pay32 (F := Ideal) e f g = Ideal.ofBits FTy.f32 1075838976#32
    * ∑ t : Fin 200, k0_pay30 (F := Ideal) e (ix2 t 0) * f (ix2 t 0) * Ideal.log (g (ix2 t 0)) := by
  unfold k0_pay32
  pointwise
  simp

/-- The sum of the lanes. -/
theorem pay33_form : k0_pay33 (F := Ideal) S = ∑ l : Fin 8192, S (ix2 0 l) := by
  unfold k0_pay33
  pointwise
  simp

/-- The closing quotient. -/
theorem pay8_form (u v w : EReal) : k0_pay8 (F := Ideal) u v w (ix2 0 0) = Ideal.div (0 - v + w) (Ideal.ofBits FTy.f32 1075838976#32 * u) := by
  unfold k0_pay8
  pointwise

end Cert.KernelIdeal.Value
end
-- ==== Proof.KVal.lean ====
/-
  The kernel's result as a quotient of sums: over the truths that are the last to claim their place, and over the scores.
-/
module

public import proofs.«01_k».proof.Proof.Sweep
public import proofs.«01_k».proof.Proof.Final
public import Idealize.ShloMosaic.Lib.WordCmp

@[expose] public section
set_option maxRecDepth 16384

noncomputable section
namespace Cert.KernelIdeal.Value
open Cert.KernelIdeal Cert.KernelIdeal.Gen Idealize.ShloMosaic Idealize.ShloMosaic.TcCoe Idealize.SL.Sem
open Idealize.ShloMosaic.Pipeline (Dat)
open Idealize.ShloMosaic.WordCmp

section
variable (I : Vec Ideal S200x1 .i32) (i : Fin 200 → Fin 100000) (hI : ∀ t, I (ix2 t 0) = BitVec.ofNat 32 (i t).val)
include hI

/-- The one-hot sum reads a truth's place. -/
theorem place_sum (x : Fin 200) :
    ∑ y : Fin 200, Scalar.select (IntOp.cmpi CmpIPredicate.eq (BitVec.ofNat 32 y.val) (BitVec.ofNat 32 x.val))
      (FloatOps.sitofp (F := Ideal) FTy.f32 (I (ix2 y 0)) : EReal) 0 = (((i x).val : ℝ) : EReal) := by
  rw [Finset.sum_eq_single x]
  · rw [cmpi_eq_eq, select_ofBool, if_pos rfl, hI, Consts.float_of_word _ (lt_trans (i x).isLt (by decide))]
  · intro y _ hy
    rw [cmpi_eq_eq, select_ofBool, if_neg]
    rw [ofNat_eq_ofNat_iff (lt_trans y.isLt (by decide)) (lt_trans x.isLt (by decide))]
    exact fun e => hy (Fin.ext e)
  · exact fun hx => absurd (Finset.mem_univ x) hx

/-- A truth counts one when no later truth claims its place, and zero otherwise. -/
theorem pay30_last (t : Fin 200) : k0_pay30 (F := Ideal) I (ix2 t 0) = (Spec.last i t : EReal) := by
  refine (pay30_form I t).trans ?_
  refine (congrArg (fun v : EReal => 1 - v)
    (Finset.fold_congr (g := fun x => if i t = i x ∧ t < x then (1 : EReal) else 0) fun x _ => ?_)).trans ?_
  · rw [place_sum I i hI x, hI t, Consts.float_of_word _ (lt_trans (i t).isLt (by decide)), cmpi_sgt_eq,
      toInt_ofNat_of_lt (lt_trans t.isLt (by decide)), toInt_ofNat_of_lt (lt_trans x.isLt (by decide)), andi_ofBool,
      ← Bool.decide_and, select_ofBool]
    refine if_congr (and_congr ?_ ?_) rfl rfl
    · rw [EReal.coe_eq_coe_iff, Nat.cast_inj, Fin.val_inj]
    · rw [Int.ofNat_lt, Fin.lt_def]
  · by_cases h : ∃ u, t < u ∧ i u = i t
    · obtain ⟨u, hu, he⟩ := h
      have hu' : i t = i u ∧ t < u := ⟨he.symm, hu⟩
      rw [Spec.last_zero i t ⟨u, hu, he⟩, Spec.fold_max_at _ _ u]
      · rw [if_pos hu', EReal.coe_zero]
        exact EReal.sub_self (by decide) (by decide)
      · rw [Consts.bot]; exact bot_le
      · intro x
        rw [if_pos hu']
        split
        · exact le_rfl
        · exact zero_le_one
    · have hz : ∀ x, ¬ (i t = i x ∧ t < x) := fun x hx => h ⟨x, hx.2, hx.1.symm⟩
      rw [Spec.last_one i t fun u hu he => h ⟨u, hu, he⟩, Spec.fold_max_at _ _ t]
      · rw [if_neg (hz t), EReal.coe_one]
        exact sub_zero _
      · rw [Consts.bot]; exact bot_le
      · intro x
        rw [if_neg (hz x), if_neg (hz t)]

end

section
variable {A0 : Data.Mat 100000 2} {A1 : Data.Mat 100000 3} {A2 : Data.Mat 200 4}

/-- The lanes' sums come to the sum of the scores. -/
theorem lanes_total (S : Vec Ideal S1x8192 .f32)
    (h : ∀ l : Fin 8192, S (ix2 0 l) = ((∑ k ∈ Finset.range 13, Data.sg A1 (8192 * k + l.val) : ℝ) : EReal)) :
    ∑ l : Fin 8192, S (ix2 0 l) = ((∑ p : Fin 100000, Data.sg A1 p.val : ℝ) : EReal) := by
  rw [Finset.sum_congr rfl fun l _ => h l, ← Spec.coe_sum, Spec.sum_blocks,
    Spec.sum_cut (Data.sg A1) 100000 (8192 * 13) (by decide) fun p hp => if_neg (by omega)]

/-- The last point's result from what the scratch arrays hold. -/
theorem quotient_of_holds (b : Data.Bounds A0 A1 A2) (s : Scratch) (h : HoldsAll A0 A1 A2 13 s) :
    ∃ i : Fin 200 → Fin 100000, (∀ t, Spec.First (Data.ov A0 A1 A2 t) 100000 (i t).val)
      ∧ k0_pay8 (k0_pay31 (F := Ideal) s.2.1) (k0_pay32 s.2.1 s.2.2.1 s.1) (k0_pay33 s.2.2.2) (ix2 0 0)
        = Ideal.div (0 - ((5 / 2 : ℝ) : EReal) * ∑ t, (Spec.last i t : EReal) * (Data.sg A1 (i t).val : EReal)
              * Ideal.log (Data.ov A0 A1 A2 t (i t).val : EReal) + ((∑ p : Fin 100000, Data.sg A1 p.val : ℝ) : EReal))
            (((5 / 2 : ℝ) : EReal) * ∑ t, (Spec.last i t : EReal)) := by
  obtain ⟨M, I, G, S⟩ := s
  unfold HoldsAll at h
  dsimp only at h ⊢
  have hb : ∀ t, ∃ i : Fin 100000, Spec.First (Data.ov A0 A1 A2 t) 100000 i.val ∧ M (ix2 t 0) = (Data.ov A0 A1 A2 t i.val : EReal)
      ∧ I (ix2 t 0) = BitVec.ofNat 32 i.val ∧ G (ix2 t 0) = (Data.sg A1 i.val : EReal) := by
    intro t
    obtain ⟨i, hi, h1, h2, h3⟩ := h.best t
    have hr := hi.restrict (k := 100000) (by decide) (by decide) (Data.ov_nonneg b t 0) fun p hp => Data.ov_past b t p hp
    exact ⟨⟨i, hr.lt⟩, hr, h1, h2, h3⟩
  choose i hi hM hI hG using hb
  refine ⟨i, hi, ?_⟩
  rw [pay8_form, pay31_form, pay32_form, pay33_form, Consts.twoHalf, lanes_total S h.lanes]
  simp only [pay30_last I i hI, hM, hG]

end

/-- The kernel's result. -/
theorem result (m : (l : Loc nD τ sig) → Buf (Elt Ideal) l) (c : Dev nD)
    (b : Data.Bounds (m ((c : Thread nD τ).loc main_arg0)) (m ((c : Thread nD τ).loc main_arg1))
      (m ((c : Thread nD τ).loc main_arg2))) :
    ∃ i : Fin 200 → Fin 100000, (∀ t, Spec.First (Data.ov (m ((c : Thread nD τ).loc main_arg0)) (m ((c : Thread nD τ).loc main_arg1))
        (m ((c : Thread nD τ).loc main_arg2)) t) 100000 (i t).val)
      ∧ G2 m c (ix2 0 0)
        = Ideal.div (0 - ((5 / 2 : ℝ) : EReal) * ∑ t, (Spec.last i t : EReal)
              * (Data.sg (m ((c : Thread nD τ).loc main_arg1)) (i t).val : EReal)
              * Ideal.log (Data.ov (m ((c : Thread nD τ).loc main_arg0)) (m ((c : Thread nD τ).loc main_arg1))
        (m ((c : Thread nD τ).loc main_arg2)) t (i t).val : EReal)
              + ((∑ p : Fin 100000, Data.sg (m ((c : Thread nD τ).loc main_arg1)) p.val : ℝ) : EReal))
            (((5 / 2 : ℝ) : EReal) * ∑ t, (Spec.last i t : EReal)) := by
  obtain ⟨s, hs, e⟩ := result_of_sweep m c b
  obtain ⟨i, hi, hq⟩ := quotient_of_holds b s hs
  exact ⟨i, hi, (congrFun e (ix2 0 0)).trans hq⟩

end Cert.KernelIdeal.Value
end
-- ==== Proof.RefRun.lean ====
/-
  The run of the reference program: 131 operations on arrays, cut in five stretches; what each stretch leaves in the
  buffers the later ones read, and the whole run.
-/
module

public import proofs.«01_k».proof.Defs
public import proofs.«01_k».proof.Proof.Gen.ReferenceIdeal
public import Idealize.ShloMosaic.Lib.Claim
public import Idealize.ShloMosaic.Lib.Tactic

@[expose] public section
set_option maxRecDepth 16384

noncomputable section
namespace Cert.ReferenceIdeal.Run
open Cert.ReferenceIdeal Cert.ReferenceIdeal.Gen Idealize.ShloMosaic Idealize.ShloMosaic.TcCoe Idealize.SL.Sem
open Idealize.ShloMosaic.StableHlo

variable {F : FTy → Type} [FloatOps F]

/-- Operations 1 to 25: the logistic scores and the priors' corners. -/
abbrev opsA : List (HloOp τ sig (Elt F)) :=
  [ unary main_arg1 main_v0 ((extractStridedSlice S100000x1 ![0, 2] · slices_S100000x3_S100000x1_0_2) : (⟨S100000x3, .f32⟩ : BufTy).Contents (Elt F) → (⟨S100000x1, .f32⟩ : BufTy).Contents (Elt F)),
    reshape main_v0 main_v1 (rfl : (.f32 : EltTy) = .f32) shapeCasts_S100000x1_S100000,
    unary main_v1 main_v2 (Host.negf : (⟨S100000, .f32⟩ : BufTy).Contents (Elt F) → (⟨S100000, .f32⟩ : BufTy).Contents (Elt F)),
    unary main_v2 main_v3 (Host.exp : (⟨S100000, .f32⟩ : BufTy).Contents (Elt F) → (⟨S100000, .f32⟩ : BufTy).Contents (Elt F)),
    nullary main_cst (constant S_ .f32 0x3F800000#32),
    unary main_cst main_v4 (broadcastInDim S100000 ![] bcast_S_S100000 : (⟨S_, .f32⟩ : BufTy).Contents (Elt F) → (⟨S100000, .f32⟩ : BufTy).Contents (Elt F)),
    binary main_v4 main_v3 main_v5 (addf : (⟨S100000, .f32⟩ : BufTy).Contents (Elt F) → (⟨S100000, .f32⟩ : BufTy).Contents (Elt F) → (⟨S100000, .f32⟩ : BufTy).Contents (Elt F)),
    nullary main_cst_0 (constant S_ .f32 0x3F800000#32),
    unary main_cst_0 main_v6 (broadcastInDim S100000 ![] bcast_S_S100000 : (⟨S_, .f32⟩ : BufTy).Contents (Elt F) → (⟨S100000, .f32⟩ : BufTy).Contents (Elt F)),
    binary main_v6 main_v5 main_v7 (Host.divf : (⟨S100000, .f32⟩ : BufTy).Contents (Elt F) → (⟨S100000, .f32⟩ : BufTy).Contents (Elt F) → (⟨S100000, .f32⟩ : BufTy).Contents (Elt F)),
    unary main_arg1 main_v8 ((extractStridedSlice S100000x2 ![0, 0] · slices_S100000x3_S100000x2_0_0) : (⟨S100000x3, .f32⟩ : BufTy).Contents (Elt F) → (⟨S100000x2, .f32⟩ : BufTy).Contents (Elt F)),
    binary main_arg0 main_v8 main_v9 ((fun a b => concatenate S100000x4 1 [⟨S100000x2, a⟩, ⟨S100000x2, b⟩] concatenates_S100000x2_S100000x2_S100000x4_d1) : (⟨S100000x2, .f32⟩ : BufTy).Contents (Elt F) → (⟨S100000x2, .f32⟩ : BufTy).Contents (Elt F) → (⟨S100000x4, .f32⟩ : BufTy).Contents (Elt F)),
    unary main_v9 main_v10 ((extractStridedSlice S100000x2 ![0, 0] · slices_S100000x4_S100000x2_0_0) : (⟨S100000x4, .f32⟩ : BufTy).Contents (Elt F) → (⟨S100000x2, .f32⟩ : BufTy).Contents (Elt F)),
    unary main_v9 main_v11 ((extractStridedSlice S100000x2 ![0, 2] · slices_S100000x4_S100000x2_0_2) : (⟨S100000x4, .f32⟩ : BufTy).Contents (Elt F) → (⟨S100000x2, .f32⟩ : BufTy).Contents (Elt F)),
    nullary main_cst_1 (constant S_ .f32 0x40000000#32),
    unary main_cst_1 main_v12 (broadcastInDim S100000x2 ![] bcast_S_S100000x2 : (⟨S_, .f32⟩ : BufTy).Contents (Elt F) → (⟨S100000x2, .f32⟩ : BufTy).Contents (Elt F)),
    binary main_v11 main_v12 main_v13 (Host.divf : (⟨S100000x2, .f32⟩ : BufTy).Contents (Elt F) → (⟨S100000x2, .f32⟩ : BufTy).Contents (Elt F) → (⟨S100000x2, .f32⟩ : BufTy).Contents (Elt F)),
    binary main_v10 main_v13 main_v14 (subf : (⟨S100000x2, .f32⟩ : BufTy).Contents (Elt F) → (⟨S100000x2, .f32⟩ : BufTy).Contents (Elt F) → (⟨S100000x2, .f32⟩ : BufTy).Contents (Elt F)),
    unary main_v9 main_v15 ((extractStridedSlice S100000x2 ![0, 0] · slices_S100000x4_S100000x2_0_0) : (⟨S100000x4, .f32⟩ : BufTy).Contents (Elt F) → (⟨S100000x2, .f32⟩ : BufTy).Contents (Elt F)),
    unary main_v9 main_v16 ((extractStridedSlice S100000x2 ![0, 2] · slices_S100000x4_S100000x2_0_2) : (⟨S100000x4, .f32⟩ : BufTy).Contents (Elt F) → (⟨S100000x2, .f32⟩ : BufTy).Contents (Elt F)),
    nullary main_cst_2 (constant S_ .f32 0x40000000#32),
    unary main_cst_2 main_v17 (broadcastInDim S100000x2 ![] bcast_S_S100000x2 : (⟨S_, .f32⟩ : BufTy).Contents (Elt F) → (⟨S100000x2, .f32⟩ : BufTy).Contents (Elt F)),
    binary main_v16 main_v17 main_v18 (Host.divf : (⟨S100000x2, .f32⟩ : BufTy).Contents (Elt F) → (⟨S100000x2, .f32⟩ : BufTy).Contents (Elt F) → (⟨S100000x2, .f32⟩ : BufTy).Contents (Elt F)),
    binary main_v15 main_v18 main_v19 (addf : (⟨S100000x2, .f32⟩ : BufTy).Contents (Elt F) → (⟨S100000x2, .f32⟩ : BufTy).Contents (Elt F) → (⟨S100000x2, .f32⟩ : BufTy).Contents (Elt F)),
    binary main_v14 main_v19 main_v20 ((fun a b => concatenate S100000x4 1 [⟨S100000x2, a⟩, ⟨S100000x2, b⟩] concatenates_S100000x2_S100000x2_S100000x4_d1) : (⟨S100000x2, .f32⟩ : BufTy).Contents (Elt F) → (⟨S100000x2, .f32⟩ : BufTy).Contents (Elt F) → (⟨S100000x4, .f32⟩ : BufTy).Contents (Elt F)) ]

/-- Operations 26 to 78: the overlaps. -/
abbrev opsB : List (HloOp τ sig (Elt F)) :=
  [ unary main_arg2 main_v21 ((extractStridedSlice S200x2 ![0, 2] · slices_S200x4_S200x2_0_2) : (⟨S200x4, .f32⟩ : BufTy).Contents (Elt F) → (⟨S200x2, .f32⟩ : BufTy).Contents (Elt F)),
    unary main_v21 main_v22 (broadcastInDim S200x1x2 ![0, 2] bcast_S200x2_S200x1x2_0_2 : (⟨S200x2, .f32⟩ : BufTy).Contents (Elt F) → (⟨S200x1x2, .f32⟩ : BufTy).Contents (Elt F)),
    unary main_v20 main_v23 ((extractStridedSlice S100000x2 ![0, 2] · slices_S100000x4_S100000x2_0_2) : (⟨S100000x4, .f32⟩ : BufTy).Contents (Elt F) → (⟨S100000x2, .f32⟩ : BufTy).Contents (Elt F)),
    unary main_v23 main_v24 (broadcastInDim S1x100000x2 ![1, 2] bcast_S100000x2_S1x100000x2_1_2 : (⟨S100000x2, .f32⟩ : BufTy).Contents (Elt F) → (⟨S1x100000x2, .f32⟩ : BufTy).Contents (Elt F)),
    unary main_v22 main_v25 (broadcastInDim S200x100000x2 ![0, 1, 2] bcast_S200x1x2_S200x100000x2_0_1_2 : (⟨S200x1x2, .f32⟩ : BufTy).Contents (Elt F) → (⟨S200x100000x2, .f32⟩ : BufTy).Contents (Elt F)),
    unary main_v24 main_v26 (broadcastInDim S200x100000x2 ![0, 1, 2] bcast_S1x100000x2_S200x100000x2_0_1_2 : (⟨S1x100000x2, .f32⟩ : BufTy).Contents (Elt F) → (⟨S200x100000x2, .f32⟩ : BufTy).Contents (Elt F)),
    binary main_v25 main_v26 main_v27 (minimumf : (⟨S200x100000x2, .f32⟩ : BufTy).Contents (Elt F) → (⟨S200x100000x2, .f32⟩ : BufTy).Contents (Elt F) → (⟨S200x100000x2, .f32⟩ : BufTy).Contents (Elt F)),
    unary main_arg2 main_v28 ((extractStridedSlice S200x2 ![0, 0] · slices_S200x4_S200x2_0_0) : (⟨S200x4, .f32⟩ : BufTy).Contents (Elt F) → (⟨S200x2, .f32⟩ : BufTy).Contents (Elt F)),
    unary main_v28 main_v29 (broadcastInDim S200x1x2 ![0, 2] bcast_S200x2_S200x1x2_0_2 : (⟨S200x2, .f32⟩ : BufTy).Contents (Elt F) → (⟨S200x1x2, .f32⟩ : BufTy).Contents (Elt F)),
    unary main_v20 main_v30 ((extractStridedSlice S100000x2 ![0, 0] · slices_S100000x4_S100000x2_0_0) : (⟨S100000x4, .f32⟩ : BufTy).Contents (Elt F) → (⟨S100000x2, .f32⟩ : BufTy).Contents (Elt F)),
    unary main_v30 main_v31 (broadcastInDim S1x100000x2 ![1, 2] bcast_S100000x2_S1x100000x2_1_2 : (⟨S100000x2, .f32⟩ : BufTy).Contents (Elt F) → (⟨S1x100000x2, .f32⟩ : BufTy).Contents (Elt F)),
    unary main_v29 main_v32 (broadcastInDim S200x100000x2 ![0, 1, 2] bcast_S200x1x2_S200x100000x2_0_1_2 : (⟨S200x1x2, .f32⟩ : BufTy).Contents (Elt F) → (⟨S200x100000x2, .f32⟩ : BufTy).Contents (Elt F)),
    unary main_v31 main_v33 (broadcastInDim S200x100000x2 ![0, 1, 2] bcast_S1x100000x2_S200x100000x2_0_1_2 : (⟨S1x100000x2, .f32⟩ : BufTy).Contents (Elt F) → (⟨S200x100000x2, .f32⟩ : BufTy).Contents (Elt F)),
    binary main_v32 main_v33 main_v34 (maximumf : (⟨S200x100000x2, .f32⟩ : BufTy).Contents (Elt F) → (⟨S200x100000x2, .f32⟩ : BufTy).Contents (Elt F) → (⟨S200x100000x2, .f32⟩ : BufTy).Contents (Elt F)),
    binary main_v27 main_v34 main_v35 (subf : (⟨S200x100000x2, .f32⟩ : BufTy).Contents (Elt F) → (⟨S200x100000x2, .f32⟩ : BufTy).Contents (Elt F) → (⟨S200x100000x2, .f32⟩ : BufTy).Contents (Elt F)),
    nullary main_cst_3 (constant S_ .f32 0x00000000#32),
    TRef.unary (.of main_cst_3) main_call0.v0 id,
    TRef.unary main_call0.v0 main_call0.v1 (broadcastInDim S200x100000x2 ![] bcast_S_S200x100000x2),
    TRef.binary main_call0.v1 (.of main_v35) main_call0.v2 maximumf,
    unary main_v36 main_v37 ((extractStridedSlice S200x100000x1 ![0, 0, 0] · slices_S200x100000x2_S200x100000x1_0_0_0) : (⟨S200x100000x2, .f32⟩ : BufTy).Contents (Elt F) → (⟨S200x100000x1, .f32⟩ : BufTy).Contents (Elt F)),
    reshape main_v37 main_v38 (rfl : (.f32 : EltTy) = .f32) shapeCasts_S200x100000x1_S200x100000,
    unary main_v36 main_v39 ((extractStridedSlice S200x100000x1 ![0, 0, 1] · slices_S200x100000x2_S200x100000x1_0_0_1) : (⟨S200x100000x2, .f32⟩ : BufTy).Contents (Elt F) → (⟨S200x100000x1, .f32⟩ : BufTy).Contents (Elt F)),
    reshape main_v39 main_v40 (rfl : (.f32 : EltTy) = .f32) shapeCasts_S200x100000x1_S200x100000,
    binary main_v38 main_v40 main_v41 (mulf : (⟨S200x100000, .f32⟩ : BufTy).Contents (Elt F) → (⟨S200x100000, .f32⟩ : BufTy).Contents (Elt F) → (⟨S200x100000, .f32⟩ : BufTy).Contents (Elt F)),
    unary main_arg2 main_v42 ((extractStridedSlice S200x1 ![0, 2] · slices_S200x4_S200x1_0_2) : (⟨S200x4, .f32⟩ : BufTy).Contents (Elt F) → (⟨S200x1, .f32⟩ : BufTy).Contents (Elt F)),
    reshape main_v42 main_v43 (rfl : (.f32 : EltTy) = .f32) shapeCasts_S200x1_S200,
    unary main_arg2 main_v44 ((extractStridedSlice S200x1 ![0, 0] · slices_S200x4_S200x1_0_0) : (⟨S200x4, .f32⟩ : BufTy).Contents (Elt F) → (⟨S200x1, .f32⟩ : BufTy).Contents (Elt F)),
    reshape main_v44 main_v45 (rfl : (.f32 : EltTy) = .f32) shapeCasts_S200x1_S200,
    binary main_v43 main_v45 main_v46 (subf : (⟨S200, .f32⟩ : BufTy).Contents (Elt F) → (⟨S200, .f32⟩ : BufTy).Contents (Elt F) → (⟨S200, .f32⟩ : BufTy).Contents (Elt F)),
    unary main_arg2 main_v47 ((extractStridedSlice S200x1 ![0, 3] · slices_S200x4_S200x1_0_3) : (⟨S200x4, .f32⟩ : BufTy).Contents (Elt F) → (⟨S200x1, .f32⟩ : BufTy).Contents (Elt F)),
    reshape main_v47 main_v48 (rfl : (.f32 : EltTy) = .f32) shapeCasts_S200x1_S200,
    unary main_arg2 main_v49 ((extractStridedSlice S200x1 ![0, 1] · slices_S200x4_S200x1_0_1) : (⟨S200x4, .f32⟩ : BufTy).Contents (Elt F) → (⟨S200x1, .f32⟩ : BufTy).Contents (Elt F)),
    reshape main_v49 main_v50 (rfl : (.f32 : EltTy) = .f32) shapeCasts_S200x1_S200,
    binary main_v48 main_v50 main_v51 (subf : (⟨S200, .f32⟩ : BufTy).Contents (Elt F) → (⟨S200, .f32⟩ : BufTy).Contents (Elt F) → (⟨S200, .f32⟩ : BufTy).Contents (Elt F)),
    binary main_v46 main_v51 main_v52 (mulf : (⟨S200, .f32⟩ : BufTy).Contents (Elt F) → (⟨S200, .f32⟩ : BufTy).Contents (Elt F) → (⟨S200, .f32⟩ : BufTy).Contents (Elt F)),
    unary main_v52 main_v53 (broadcastInDim S200x1 ![0] bcast_S200_S200x1_0 : (⟨S200, .f32⟩ : BufTy).Contents (Elt F) → (⟨S200x1, .f32⟩ : BufTy).Contents (Elt F)),
    unary main_v20 main_v54 ((extractStridedSlice S100000x1 ![0, 2] · slices_S100000x4_S100000x1_0_2) : (⟨S100000x4, .f32⟩ : BufTy).Contents (Elt F) → (⟨S100000x1, .f32⟩ : BufTy).Contents (Elt F)),
    reshape main_v54 main_v55 (rfl : (.f32 : EltTy) = .f32) shapeCasts_S100000x1_S100000,
    unary main_v20 main_v56 ((extractStridedSlice S100000x1 ![0, 0] · slices_S100000x4_S100000x1_0_0) : (⟨S100000x4, .f32⟩ : BufTy).Contents (Elt F) → (⟨S100000x1, .f32⟩ : BufTy).Contents (Elt F)),
    reshape main_v56 main_v57 (rfl : (.f32 : EltTy) = .f32) shapeCasts_S100000x1_S100000,
    binary main_v55 main_v57 main_v58 (subf : (⟨S100000, .f32⟩ : BufTy).Contents (Elt F) → (⟨S100000, .f32⟩ : BufTy).Contents (Elt F) → (⟨S100000, .f32⟩ : BufTy).Contents (Elt F)),
    unary main_v20 main_v59 ((extractStridedSlice S100000x1 ![0, 3] · slices_S100000x4_S100000x1_0_3) : (⟨S100000x4, .f32⟩ : BufTy).Contents (Elt F) → (⟨S100000x1, .f32⟩ : BufTy).Contents (Elt F)),
    reshape main_v59 main_v60 (rfl : (.f32 : EltTy) = .f32) shapeCasts_S100000x1_S100000,
    unary main_v20 main_v61 ((extractStridedSlice S100000x1 ![0, 1] · slices_S100000x4_S100000x1_0_1) : (⟨S100000x4, .f32⟩ : BufTy).Contents (Elt F) → (⟨S100000x1, .f32⟩ : BufTy).Contents (Elt F)),
    reshape main_v61 main_v62 (rfl : (.f32 : EltTy) = .f32) shapeCasts_S100000x1_S100000,
    binary main_v60 main_v62 main_v63 (subf : (⟨S100000, .f32⟩ : BufTy).Contents (Elt F) → (⟨S100000, .f32⟩ : BufTy).Contents (Elt F) → (⟨S100000, .f32⟩ : BufTy).Contents (Elt F)),
    binary main_v58 main_v63 main_v64 (mulf : (⟨S100000, .f32⟩ : BufTy).Contents (Elt F) → (⟨S100000, .f32⟩ : BufTy).Contents (Elt F) → (⟨S100000, .f32⟩ : BufTy).Contents (Elt F)),
    unary main_v64 main_v65 (broadcastInDim S1x100000 ![1] bcast_S100000_S1x100000_1 : (⟨S100000, .f32⟩ : BufTy).Contents (Elt F) → (⟨S1x100000, .f32⟩ : BufTy).Contents (Elt F)),
    unary main_v53 main_v66 (broadcastInDim S200x100000 ![0, 1] bcast_S200x1_S200x100000_0_1 : (⟨S200x1, .f32⟩ : BufTy).Contents (Elt F) → (⟨S200x100000, .f32⟩ : BufTy).Contents (Elt F)),
    unary main_v65 main_v67 (broadcastInDim S200x100000 ![0, 1] bcast_S1x100000_S200x100000_0_1 : (⟨S1x100000, .f32⟩ : BufTy).Contents (Elt F) → (⟨S200x100000, .f32⟩ : BufTy).Contents (Elt F)),
    binary main_v66 main_v67 main_v68 (addf : (⟨S200x100000, .f32⟩ : BufTy).Contents (Elt F) → (⟨S200x100000, .f32⟩ : BufTy).Contents (Elt F) → (⟨S200x100000, .f32⟩ : BufTy).Contents (Elt F)),
    binary main_v68 main_v41 main_v69 (subf : (⟨S200x100000, .f32⟩ : BufTy).Contents (Elt F) → (⟨S200x100000, .f32⟩ : BufTy).Contents (Elt F) → (⟨S200x100000, .f32⟩ : BufTy).Contents (Elt F)),
    binary main_v41 main_v69 main_v70 (Host.divf : (⟨S200x100000, .f32⟩ : BufTy).Contents (Elt F) → (⟨S200x100000, .f32⟩ : BufTy).Contents (Elt F) → (⟨S200x100000, .f32⟩ : BufTy).Contents (Elt F)) ]

/-- Operations 79 to 96: the two maxima, the arg-max and the first overwrite. -/
abbrev opsC : List (HloOp τ sig (Elt F)) :=
  [ nullary main_cst_4 (constant S_ .f32 0xFF800000#32),
    binary main_v70 main_cst_4 main_v71 ((fun x v => Host.reduce FloatOps.maximumf x v reducesTo_S200x100000_S100000_d0 h_S_) : (⟨S200x100000, .f32⟩ : BufTy).Contents (Elt F) → (⟨S_, .f32⟩ : BufTy).Contents (Elt F) → (⟨S100000, .f32⟩ : BufTy).Contents (Elt F)),
    nullary main_cst_5 (constant S_ .f32 0xFF800000#32),
    binary main_v70 main_cst_5 main_v72 ((fun x v => Host.reduce FloatOps.maximumf x v reducesTo_S200x100000_S200_d1 h_S_) : (⟨S200x100000, .f32⟩ : BufTy).Contents (Elt F) → (⟨S_, .f32⟩ : BufTy).Contents (Elt F) → (⟨S200, .f32⟩ : BufTy).Contents (Elt F)),
    TRef.nullary main_call1.v0 (iotaInDim S200x100000 32 1),
    TRef.nullary main_call1.cst (constant S_ .f32 0xFF800000#32),
    TRef.nullary main_call1.c (constantI S_ 32 0#32),
    TRef.quaternary (.of main_v70 : TRef sig ⟨S200x100000, .f32⟩) main_call1.v0 main_call1.cst main_call1.c main_call1.v1_0 (fun x y u v j => (Host.argReduce reducer_argmax_f32_i32 x y u v reducesTo_S200x100000_S200_d1 h_S_ j).1),
    TRef.quaternary (.of main_v70 : TRef sig ⟨S200x100000, .f32⟩) main_call1.v0 main_call1.cst main_call1.c main_call1.v1_1 (fun x y u v j => (Host.argReduce reducer_argmax_f32_i32 x y u v reducesTo_S200x100000_S200_d1 h_S_ j).2),
    nullary main_c (constantI S_ 32 0#32),
    unary main_c main_v74 (broadcastInDim S200 ![] bcast_S_S200 : (⟨S_, .i32⟩ : BufTy).Contents (Elt F) → (⟨S200, .i32⟩ : BufTy).Contents (Elt F)),
    binary main_v73 main_v74 main_v75 (cmpi .slt : (⟨S200, .i32⟩ : BufTy).Contents (Elt F) → (⟨S200, .i32⟩ : BufTy).Contents (Elt F) → (⟨S200, .i1⟩ : BufTy).Contents (Elt F)),
    nullary main_c_6 (constantI S_ 32 100000#32),
    unary main_c_6 main_v76 (broadcastInDim S200 ![] bcast_S_S200 : (⟨S_, .i32⟩ : BufTy).Contents (Elt F) → (⟨S200, .i32⟩ : BufTy).Contents (Elt F)),
    binary main_v73 main_v76 main_v77 (addi : (⟨S200, .i32⟩ : BufTy).Contents (Elt F) → (⟨S200, .i32⟩ : BufTy).Contents (Elt F) → (⟨S200, .i32⟩ : BufTy).Contents (Elt F)),
    ternary main_v75 main_v77 main_v73 main_v78 (select : (⟨S200, .i1⟩ : BufTy).Contents (Elt F) → (⟨S200, .i32⟩ : BufTy).Contents (Elt F) → (⟨S200, .i32⟩ : BufTy).Contents (Elt F) → (⟨S200, .i32⟩ : BufTy).Contents (Elt F)),
    unary main_v78 main_v79 (broadcastInDim S200x1 ![0] bcast_S200_S200x1_0 : (⟨S200, .i32⟩ : BufTy).Contents (Elt F) → (⟨S200x1, .i32⟩ : BufTy).Contents (Elt F)),
    ternary main_v71 main_v79 main_v72 main_v80 ((fun x i u => Host.scatter scatter_S100000_S200x1_S200_n_0_0_1 (fun _ b => b) x i u) : (⟨S100000, .f32⟩ : BufTy).Contents (Elt F) → (⟨S200x1, .i32⟩ : BufTy).Contents (Elt F) → (⟨S200, .f32⟩ : BufTy).Contents (Elt F) → (⟨S100000, .f32⟩ : BufTy).Contents (Elt F)) ]

/-- Operations 97 to 116: the threshold and the second overwrite. -/
abbrev opsD : List (HloOp τ sig (Elt F)) :=
  [ nullary main_cst_7 (constant S_ .f32 0x00000000#32),
    unary main_cst_7 main_v81 (broadcastInDim S100000 ![] bcast_S_S100000 : (⟨S_, .f32⟩ : BufTy).Contents (Elt F) → (⟨S100000, .f32⟩ : BufTy).Contents (Elt F)),
    nullary main_cst_8 (constant S_ .f32 0x3ECCCCCD#32),
    unary main_cst_8 main_v82 (broadcastInDim S100000 ![] bcast_S_S100000 : (⟨S_, .f32⟩ : BufTy).Contents (Elt F) → (⟨S100000, .f32⟩ : BufTy).Contents (Elt F)),
    binary main_v80 main_v82 main_v83 (cmpf .ogt : (⟨S100000, .f32⟩ : BufTy).Contents (Elt F) → (⟨S100000, .f32⟩ : BufTy).Contents (Elt F) → (⟨S100000, .i1⟩ : BufTy).Contents (Elt F)),
    nullary main_cst_9 (constant S_ .f32 0x3F800000#32),
    TRef.unary (.of main_cst_9) main_call2.v0 id,
    TRef.unary main_call2.v0 main_call2.v1 (broadcastInDim S100000 ![] bcast_S_S100000),
    TRef.ternary (.of main_v83 : TRef sig ⟨S100000, .i1⟩) main_call2.v1 (.of main_v81) main_call2.v2 select,
    nullary main_c_10 (constantI S_ 32 0#32),
    unary main_c_10 main_v85 (broadcastInDim S200 ![] bcast_S_S200 : (⟨S_, .i32⟩ : BufTy).Contents (Elt F) → (⟨S200, .i32⟩ : BufTy).Contents (Elt F)),
    binary main_v73 main_v85 main_v86 (cmpi .slt : (⟨S200, .i32⟩ : BufTy).Contents (Elt F) → (⟨S200, .i32⟩ : BufTy).Contents (Elt F) → (⟨S200, .i1⟩ : BufTy).Contents (Elt F)),
    nullary main_c_11 (constantI S_ 32 100000#32),
    unary main_c_11 main_v87 (broadcastInDim S200 ![] bcast_S_S200 : (⟨S_, .i32⟩ : BufTy).Contents (Elt F) → (⟨S200, .i32⟩ : BufTy).Contents (Elt F)),
    binary main_v73 main_v87 main_v88 (addi : (⟨S200, .i32⟩ : BufTy).Contents (Elt F) → (⟨S200, .i32⟩ : BufTy).Contents (Elt F) → (⟨S200, .i32⟩ : BufTy).Contents (Elt F)),
    ternary main_v86 main_v88 main_v73 main_v89 (select : (⟨S200, .i1⟩ : BufTy).Contents (Elt F) → (⟨S200, .i32⟩ : BufTy).Contents (Elt F) → (⟨S200, .i32⟩ : BufTy).Contents (Elt F) → (⟨S200, .i32⟩ : BufTy).Contents (Elt F)),
    unary main_v89 main_v90 (broadcastInDim S200x1 ![0] bcast_S200_S200x1_0 : (⟨S200, .i32⟩ : BufTy).Contents (Elt F) → (⟨S200x1, .i32⟩ : BufTy).Contents (Elt F)),
    nullary main_cst_12 (constant S_ .f32 0x40200000#32),
    unary main_cst_12 main_v91 (broadcastInDim S200 ![] bcast_S_S200 : (⟨S_, .f32⟩ : BufTy).Contents (Elt F) → (⟨S200, .f32⟩ : BufTy).Contents (Elt F)),
    ternary main_v84 main_v90 main_v91 main_v92 ((fun x i u => Host.scatter scatter_S100000_S200x1_S200_n_0_0_1 (fun _ b => b) x i u) : (⟨S100000, .f32⟩ : BufTy).Contents (Elt F) → (⟨S200x1, .i32⟩ : BufTy).Contents (Elt F) → (⟨S200, .f32⟩ : BufTy).Contents (Elt F) → (⟨S100000, .f32⟩ : BufTy).Contents (Elt F)) ]

/-- Operations 117 to 131: the two sums and the quotient. -/
abbrev opsE : List (HloOp τ sig (Elt F)) :=
  [ binary main_v7 main_v92 main_v93 (mulf : (⟨S100000, .f32⟩ : BufTy).Contents (Elt F) → (⟨S100000, .f32⟩ : BufTy).Contents (Elt F) → (⟨S100000, .f32⟩ : BufTy).Contents (Elt F)),
    unary main_v80 main_v94 (Host.log : (⟨S100000, .f32⟩ : BufTy).Contents (Elt F) → (⟨S100000, .f32⟩ : BufTy).Contents (Elt F)),
    binary main_v93 main_v94 main_v95 (mulf : (⟨S100000, .f32⟩ : BufTy).Contents (Elt F) → (⟨S100000, .f32⟩ : BufTy).Contents (Elt F) → (⟨S100000, .f32⟩ : BufTy).Contents (Elt F)),
    nullary main_cst_13 (constant S_ .f32 0x00000000#32),
    binary main_v95 main_cst_13 main_v96 ((fun x v => Host.reduceAdd x v reducesTo_S100000_S_d0 h_S_) : (⟨S100000, .f32⟩ : BufTy).Contents (Elt F) → (⟨S_, .f32⟩ : BufTy).Contents (Elt F) → (⟨S_, .f32⟩ : BufTy).Contents (Elt F)),
    unary main_v96 main_v97 (Host.negf : (⟨S_, .f32⟩ : BufTy).Contents (Elt F) → (⟨S_, .f32⟩ : BufTy).Contents (Elt F)),
    nullary main_cst_14 (constant S_ .f32 0x00000000#32),
    binary main_v7 main_cst_14 main_v98 ((fun x v => Host.reduceAdd x v reducesTo_S100000_S_d0 h_S_) : (⟨S100000, .f32⟩ : BufTy).Contents (Elt F) → (⟨S_, .f32⟩ : BufTy).Contents (Elt F) → (⟨S_, .f32⟩ : BufTy).Contents (Elt F)),
    nullary main_cst_15 (constant S_ .f32 0x3F800000#32),
    binary main_cst_15 main_v98 main_v99 (mulf : (⟨S_, .f32⟩ : BufTy).Contents (Elt F) → (⟨S_, .f32⟩ : BufTy).Contents (Elt F) → (⟨S_, .f32⟩ : BufTy).Contents (Elt F)),
    binary main_v97 main_v99 main_v100 (addf : (⟨S_, .f32⟩ : BufTy).Contents (Elt F) → (⟨S_, .f32⟩ : BufTy).Contents (Elt F) → (⟨S_, .f32⟩ : BufTy).Contents (Elt F)),
    nullary main_cst_16 (constant S_ .f32 0x00000000#32),
    binary main_v92 main_cst_16 main_v101 ((fun x v => Host.reduceAdd x v reducesTo_S100000_S_d0 h_S_) : (⟨S100000, .f32⟩ : BufTy).Contents (Elt F) → (⟨S_, .f32⟩ : BufTy).Contents (Elt F) → (⟨S_, .f32⟩ : BufTy).Contents (Elt F)),
    binary main_v100 main_v101 main_v102 (Host.divf : (⟨S_, .f32⟩ : BufTy).Contents (Elt F) → (⟨S_, .f32⟩ : BufTy).Contents (Elt F) → (⟨S_, .f32⟩ : BufTy).Contents (Elt F)),
    reshape main_v102 main_v103 (rfl : (.f32 : EltTy) = .f32) shapeCasts_S_S1x1 ]

/-- A real array of the given shape. -/
abbrev 𝔽 (s : Shape) : Type := FVec Ideal s .f32

/-- The logistic of the score column. -/
def score (A1 : 𝔽 S100000x3) : 𝔽 S100000 :=
  Host.divf (broadcastInDim S100000 ![] bcast_S_S100000 (constant S_ .f32 0x3F800000#32))
    (addf (broadcastInDim S100000 ![] bcast_S_S100000 (constant S_ .f32 0x3F800000#32))
      (Host.exp (Host.negf (shapeCast S100000 (extractStridedSlice S100000x1 ![0, 2] A1 slices_S100000x3_S100000x1_0_2)
        shapeCasts_S100000x1_S100000))))

/-- The priors as centre and size, side by side. -/
def centreSize (A0 : 𝔽 S100000x2) (A1 : 𝔽 S100000x3) : 𝔽 S100000x4 :=
  concatenate S100000x4 1 [⟨S100000x2, A0⟩, ⟨S100000x2, extractStridedSlice S100000x2 ![0, 0] A1 slices_S100000x3_S100000x2_0_0⟩]
    concatenates_S100000x2_S100000x2_S100000x4_d1

/-- Half the sizes. -/
def halfSize (P : 𝔽 S100000x4) : 𝔽 S100000x2 :=
  Host.divf (extractStridedSlice S100000x2 ![0, 2] P slices_S100000x4_S100000x2_0_2)
    (broadcastInDim S100000x2 ![] bcast_S_S100000x2 (constant S_ .f32 0x40000000#32))

/-- The priors' two corners, side by side, from centre and size. -/
def cornersOf (P : 𝔽 S100000x4) : 𝔽 S100000x4 :=
  concatenate S100000x4 1
    [⟨S100000x2, subf (extractStridedSlice S100000x2 ![0, 0] P slices_S100000x4_S100000x2_0_0) (halfSize P)⟩,
     ⟨S100000x2, addf (extractStridedSlice S100000x2 ![0, 0] P slices_S100000x4_S100000x2_0_0) (halfSize P)⟩]
    concatenates_S100000x2_S100000x2_S100000x4_d1

/-- The overlap's two sides (not below zero), from the corners and the truths. -/
def sides (C : 𝔽 S100000x4) (A2 : 𝔽 S200x4) : 𝔽 S200x100000x2 :=
  maximumf (broadcastInDim S200x100000x2 ![] bcast_S_S200x100000x2 (constant S_ .f32 0x00000000#32))
    (subf
      (minimumf
        (broadcastInDim S200x100000x2 ![0, 1, 2] bcast_S200x1x2_S200x100000x2_0_1_2
          (broadcastInDim S200x1x2 ![0, 2] bcast_S200x2_S200x1x2_0_2 (extractStridedSlice S200x2 ![0, 2] A2 slices_S200x4_S200x2_0_2)))
        (broadcastInDim S200x100000x2 ![0, 1, 2] bcast_S1x100000x2_S200x100000x2_0_1_2
          (broadcastInDim S1x100000x2 ![1, 2] bcast_S100000x2_S1x100000x2_1_2
            (extractStridedSlice S100000x2 ![0, 2] C slices_S100000x4_S100000x2_0_2))))
      (maximumf
        (broadcastInDim S200x100000x2 ![0, 1, 2] bcast_S200x1x2_S200x100000x2_0_1_2
          (broadcastInDim S200x1x2 ![0, 2] bcast_S200x2_S200x1x2_0_2 (extractStridedSlice S200x2 ![0, 0] A2 slices_S200x4_S200x2_0_0)))
        (broadcastInDim S200x100000x2 ![0, 1, 2] bcast_S1x100000x2_S200x100000x2_0_1_2
          (broadcastInDim S1x100000x2 ![1, 2] bcast_S100000x2_S1x100000x2_1_2
            (extractStridedSlice S100000x2 ![0, 0] C slices_S100000x4_S100000x2_0_0)))))

/-- The common area. -/
def common (D : 𝔽 S200x100000x2) : 𝔽 S200x100000 :=
  mulf (shapeCast S200x100000 (extractStridedSlice S200x100000x1 ![0, 0, 0] D slices_S200x100000x2_S200x100000x1_0_0_0)
      shapeCasts_S200x100000x1_S200x100000)
    (shapeCast S200x100000 (extractStridedSlice S200x100000x1 ![0, 0, 1] D slices_S200x100000x2_S200x100000x1_0_0_1)
      shapeCasts_S200x100000x1_S200x100000)

/-- The truths' areas. -/
def areaT (A2 : 𝔽 S200x4) : 𝔽 S200 :=
  mulf
    (subf (shapeCast S200 (extractStridedSlice S200x1 ![0, 2] A2 slices_S200x4_S200x1_0_2) shapeCasts_S200x1_S200)
      (shapeCast S200 (extractStridedSlice S200x1 ![0, 0] A2 slices_S200x4_S200x1_0_0) shapeCasts_S200x1_S200))
    (subf (shapeCast S200 (extractStridedSlice S200x1 ![0, 3] A2 slices_S200x4_S200x1_0_3) shapeCasts_S200x1_S200)
      (shapeCast S200 (extractStridedSlice S200x1 ![0, 1] A2 slices_S200x4_S200x1_0_1) shapeCasts_S200x1_S200))

/-- The priors' areas. -/
def areaP (C : 𝔽 S100000x4) : 𝔽 S100000 :=
  mulf
    (subf (shapeCast S100000 (extractStridedSlice S100000x1 ![0, 2] C slices_S100000x4_S100000x1_0_2) shapeCasts_S100000x1_S100000)
      (shapeCast S100000 (extractStridedSlice S100000x1 ![0, 0] C slices_S100000x4_S100000x1_0_0) shapeCasts_S100000x1_S100000))
    (subf (shapeCast S100000 (extractStridedSlice S100000x1 ![0, 3] C slices_S100000x4_S100000x1_0_3) shapeCasts_S100000x1_S100000)
      (shapeCast S100000 (extractStridedSlice S100000x1 ![0, 1] C slices_S100000x4_S100000x1_0_1) shapeCasts_S100000x1_S100000))

/-- The overlaps: the common area over the area of the union. -/
def overlaps (C : 𝔽 S100000x4) (A2 : 𝔽 S200x4) : 𝔽 S200x100000 :=
  Host.divf (common (sides C A2))
    (subf
      (addf
        (broadcastInDim S200x100000 ![0, 1] bcast_S200x1_S200x100000_0_1
          (broadcastInDim S200x1 ![0] bcast_S200_S200x1_0 (areaT A2)))
        (broadcastInDim S200x100000 ![0, 1] bcast_S1x100000_S200x100000_0_1
          (broadcastInDim S1x100000 ![1] bcast_S100000_S1x100000_1 (areaP C))))
      (common (sides C A2)))

/-- Each truth's best overlap. -/
def rowMax (O : 𝔽 S200x100000) : 𝔽 S200 :=
  Host.reduce FloatOps.maximumf O (constant S_ .f32 0xFF800000#32) reducesTo_S200x100000_S200_d1 h_S_

/-- Each prior's best overlap. -/
def colMax (O : 𝔽 S200x100000) : 𝔽 S100000 :=
  Host.reduce FloatOps.maximumf O (constant S_ .f32 0xFF800000#32) reducesTo_S200x100000_S100000_d0 h_S_

/-- Each truth's best prior: the first at the row's greatest overlap. -/
def rowArg (O : 𝔽 S200x100000) : IVec S200 32 := fun j =>
  (Host.argReduce reducer_argmax_f32_i32 O (iotaInDim S200x100000 32 1) (constant S_ .f32 0xFF800000#32)
    (constantI S_ 32 0#32) reducesTo_S200x100000_S200_d1 h_S_ j).2

/-- The places an overwrite goes to: a negative one would count from the end. -/
def places (b : IVec S200 32) : IVec S200x1 32 :=
  broadcastInDim S200x1 ![0] bcast_S200_S200x1_0
    (select (cmpi .slt b (broadcastInDim S200 ![] bcast_S_S200 (constantI S_ 32 0#32)))
      (addi b (broadcastInDim S200 ![] bcast_S_S200 (constantI S_ 32 100000#32))) b)

/-- Each prior's best overlap after the best priors' own are written over it. -/
def bestOverlap (O : 𝔽 S200x100000) : 𝔽 S100000 :=
  Host.scatter scatter_S100000_S200x1_S200_n_0_0_1 (fun _ b => b) (colMax O) (places (rowArg O)) (rowMax O)

/-- The filter: one above the threshold, zero below, two and a half at the best priors. -/
def filterOf (B : 𝔽 S100000) (b : IVec S200 32) : 𝔽 S100000 :=
  Host.scatter scatter_S100000_S200x1_S200_n_0_0_1 (fun _ b => b)
    (select (cmpf .ogt B (broadcastInDim S100000 ![] bcast_S_S100000 (constant S_ .f32 0x3ECCCCCD#32)))
      (broadcastInDim S100000 ![] bcast_S_S100000 (constant S_ .f32 0x3F800000#32))
      (broadcastInDim S100000 ![] bcast_S_S100000 (constant S_ .f32 0x00000000#32)))
    (places b) (broadcastInDim S200 ![] bcast_S_S200 (constant S_ .f32 0x40200000#32))

/-- The sum of an array, as a number. -/
def total (x : 𝔽 S100000) : 𝔽 S_ :=
  Host.reduceAdd x (constant S_ .f32 0x00000000#32) reducesTo_S100000_S_d0 h_S_

/-- The loss from the scores, the best overlaps and the filter. -/
def lossOf (s B X : 𝔽 S100000) : 𝔽 S1x1 :=
  shapeCast S1x1
    (Host.divf (addf (Host.negf (total (mulf (mulf s X) (Host.log B))))
        (mulf (constant S_ .f32 0x3F800000#32) (total s)))
      (total X)) shapeCasts_S_S1x1

/-- The whole reference. -/
def loss (A0 : 𝔽 S100000x2) (A1 : 𝔽 S100000x3) (A2 : 𝔽 S200x4) : 𝔽 S1x1 :=
  lossOf (score A1) (bestOverlap (overlaps (cornersOf (centreSize A0 A1)) A2))
    (filterOf (bestOverlap (overlaps (cornersOf (centreSize A0 A1)) A2)) (rowArg (overlaps (cornersOf (centreSize A0 A1)) A2)))

section stretches
variable (V : Valuation τ sig (Elt Ideal))

/-- The first stretch leaves the scores. -/
theorem A_v7 : after (opsA (F := Ideal)) V (main_v7 : DevRef τ sig) = score (V (main_arg1 : DevRef τ sig)) := by
  after_results
  rfl
/-- The first stretch leaves the priors' corners. -/
theorem A_v20 : after (opsA (F := Ideal)) V (main_v20 : DevRef τ sig)
    = cornersOf (centreSize (V (main_arg0 : DevRef τ sig)) (V (main_arg1 : DevRef τ sig))) := by
  after_results
  rfl
/-- The first stretch leaves argument 0 as it was. -/
theorem A_arg0 : after (opsA (F := Ideal)) V (main_arg0 : DevRef τ sig) = V (main_arg0 : DevRef τ sig) := by after_results
/-- The first stretch leaves argument 1 as it was. -/
theorem A_arg1 : after (opsA (F := Ideal)) V (main_arg1 : DevRef τ sig) = V (main_arg1 : DevRef τ sig) := by after_results
/-- The first stretch leaves argument 2 as it was. -/
theorem A_arg2 : after (opsA (F := Ideal)) V (main_arg2 : DevRef τ sig) = V (main_arg2 : DevRef τ sig) := by after_results

/-- The second stretch leaves the overlaps. -/
theorem B_v70 : after (opsB (F := Ideal)) V (main_v70 : DevRef τ sig)
    = overlaps (V (main_v20 : DevRef τ sig)) (V (main_arg2 : DevRef τ sig)) := by
  after_results
  rfl
/-- The second stretch leaves the scores as they were. -/
theorem B_v7 : after (opsB (F := Ideal)) V (main_v7 : DevRef τ sig) = V (main_v7 : DevRef τ sig) := by after_results
/-- The second stretch leaves argument 0 as it was. -/
theorem B_arg0 : after (opsB (F := Ideal)) V (main_arg0 : DevRef τ sig) = V (main_arg0 : DevRef τ sig) := by after_results
/-- The second stretch leaves argument 1 as it was. -/
theorem B_arg1 : after (opsB (F := Ideal)) V (main_arg1 : DevRef τ sig) = V (main_arg1 : DevRef τ sig) := by after_results
/-- The second stretch leaves argument 2 as it was. -/
theorem B_arg2 : after (opsB (F := Ideal)) V (main_arg2 : DevRef τ sig) = V (main_arg2 : DevRef τ sig) := by after_results

/-- The third stretch leaves each truth's best prior. -/
theorem C_v73 : after (opsC (F := Ideal)) V (main_v73 : DevRef τ sig) = rowArg (V (main_v70 : DevRef τ sig)) := by
  after_results
  rfl
/-- The third stretch leaves the best overlaps of truths and priors. -/
theorem C_v80 : after (opsC (F := Ideal)) V (main_v80 : DevRef τ sig) = bestOverlap (V (main_v70 : DevRef τ sig)) := by
  after_results
  rfl
/-- The third stretch leaves the scores as they were. -/
theorem C_v7 : after (opsC (F := Ideal)) V (main_v7 : DevRef τ sig) = V (main_v7 : DevRef τ sig) := by after_results
/-- The third stretch leaves argument 0 as it was. -/
theorem C_arg0 : after (opsC (F := Ideal)) V (main_arg0 : DevRef τ sig) = V (main_arg0 : DevRef τ sig) := by after_results
/-- The third stretch leaves argument 1 as it was. -/
theorem C_arg1 : after (opsC (F := Ideal)) V (main_arg1 : DevRef τ sig) = V (main_arg1 : DevRef τ sig) := by after_results
/-- The third stretch leaves argument 2 as it was. -/
theorem C_arg2 : after (opsC (F := Ideal)) V (main_arg2 : DevRef τ sig) = V (main_arg2 : DevRef τ sig) := by after_results

/-- The fourth stretch leaves the filter. -/
theorem D_v92 : after (opsD (F := Ideal)) V (main_v92 : DevRef τ sig)
    = filterOf (V (main_v80 : DevRef τ sig)) (V (main_v73 : DevRef τ sig)) := by
  after_results
  rfl
/-- The fourth stretch leaves the scores as they were. -/
theorem D_v7 : after (opsD (F := Ideal)) V (main_v7 : DevRef τ sig) = V (main_v7 : DevRef τ sig) := by after_results
/-- The fourth stretch leaves the best overlaps as they were. -/
theorem D_v80 : after (opsD (F := Ideal)) V (main_v80 : DevRef τ sig) = V (main_v80 : DevRef τ sig) := by after_results
/-- The fourth stretch leaves argument 0 as it was. -/
theorem D_arg0 : after (opsD (F := Ideal)) V (main_arg0 : DevRef τ sig) = V (main_arg0 : DevRef τ sig) := by after_results
/-- The fourth stretch leaves argument 1 as it was. -/
theorem D_arg1 : after (opsD (F := Ideal)) V (main_arg1 : DevRef τ sig) = V (main_arg1 : DevRef τ sig) := by after_results
/-- The fourth stretch leaves argument 2 as it was. -/
theorem D_arg2 : after (opsD (F := Ideal)) V (main_arg2 : DevRef τ sig) = V (main_arg2 : DevRef τ sig) := by after_results

/-- The fifth stretch leaves the loss. -/
theorem E_v103 : after (opsE (F := Ideal)) V (main_v103 : DevRef τ sig)
    = lossOf (V (main_v7 : DevRef τ sig)) (V (main_v80 : DevRef τ sig)) (V (main_v92 : DevRef τ sig)) := by
  after_results
  rfl
/-- The fifth stretch leaves argument 0 as it was. -/
theorem E_arg0 : after (opsE (F := Ideal)) V (main_arg0 : DevRef τ sig) = V (main_arg0 : DevRef τ sig) := by after_results
/-- The fifth stretch leaves argument 1 as it was. -/
theorem E_arg1 : after (opsE (F := Ideal)) V (main_arg1 : DevRef τ sig) = V (main_arg1 : DevRef τ sig) := by after_results
/-- The fifth stretch leaves argument 2 as it was. -/
theorem E_arg2 : after (opsE (F := Ideal)) V (main_arg2 : DevRef τ sig) = V (main_arg2 : DevRef τ sig) := by after_results

/-- Two stretches one after the other. -/
theorem after_two (k l : List (HloOp τ sig (Elt Ideal))) : after (k ++ l) V = after l (after k V) := by
  induction k generalizing V with
  | nil => rfl
  | cons op k ih => exact ih (op.result V)

end stretches

/-- All the operations, in order. -/
abbrev ops : List (HloOp τ sig (Elt F)) := opsA ++ (opsB ++ (opsC ++ (opsD ++ opsE)))

/-- What the result buffer holds after all of them. -/
theorem ops_v103 (V : Valuation τ sig (Elt Ideal)) : after (ops (F := Ideal)) V (main_v103 : DevRef τ sig)
    = loss (V (main_arg0 : DevRef τ sig)) (V (main_arg1 : DevRef τ sig)) (V (main_arg2 : DevRef τ sig)) := by
  rw [after_two, after_two, after_two, after_two, E_v103, D_v7, D_v80, D_v92, C_v7, C_v80, C_v73, B_v7, B_v70, A_v7, A_v20,
    A_arg2]
  rfl
/-- The whole run leaves argument 0 as it was. -/
theorem ops_arg0 (V : Valuation τ sig (Elt Ideal)) : after (ops (F := Ideal)) V (main_arg0 : DevRef τ sig) = V (main_arg0 : DevRef τ sig) := by
  rw [after_two, after_two, after_two, after_two, E_arg0, D_arg0, C_arg0, B_arg0, A_arg0]
/-- The whole run leaves argument 1 as it was. -/
theorem ops_arg1 (V : Valuation τ sig (Elt Ideal)) : after (ops (F := Ideal)) V (main_arg1 : DevRef τ sig) = V (main_arg1 : DevRef τ sig) := by
  rw [after_two, after_two, after_two, after_two, E_arg1, D_arg1, C_arg1, B_arg1, A_arg1]
/-- The whole run leaves argument 2 as it was. -/
theorem ops_arg2 (V : Valuation τ sig (Elt Ideal)) : after (ops (F := Ideal)) V (main_arg2 : DevRef τ sig) = V (main_arg2 : DevRef τ sig) := by
  rw [after_two, after_two, after_two, after_two, E_arg2, D_arg2, C_arg2, B_arg2, A_arg2]

set_option maxHeartbeats 4000000 in
/-- The reference terminates, its result is `loss` of its arguments, its arguments and the semaphores are as before. -/
theorem run (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_v103)
        = loss (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 := by
  have h := run_hlo (defs (F := Ideal)) (main (F := Ideal)) (by hlo_seq) (by decide) (by decide) (by simp)
      (by intro _ h; (repeat (cases h with | head => rfl | tail _ h => ?_)); exact nomatch h) m g
  refine θ_run_mono h fun r hr => ⟨fun c => ⟨?_, ?_, ?_, ?_⟩, sem_eq_zero_of_no_sems rfl _⟩
  · rw [hr c main_v103]
    change after (ops (F := Ideal)) _ _ = _
    exact ops_v103 _
  · rw [hr c main_arg0]
    change after (ops (F := Ideal)) _ _ = _
    exact ops_arg0 _
  · rw [hr c main_arg1]
    change after (ops (F := Ideal)) _ _ = _
    exact ops_arg1 _
  · rw [hr c main_arg2]
    change after (ops (F := Ideal)) _ _ = _
    exact ops_arg2 _

end Cert.ReferenceIdeal.Run
end
-- ==== Proof.RefOv.lean ====
/-
  The reference's overlaps, entry by entry: the overlap of the truth's box with the prior's.
-/
module

public import proofs.«01_k».proof.Proof.RefRun
public import proofs.«01_k».proof.Proof.Data
public import Idealize.ShloMosaic.Lib.Pointwise

@[expose] public section
set_option maxRecDepth 16384

noncomputable section
namespace Cert.ReferenceIdeal.Run
open Cert.ReferenceIdeal Cert.ReferenceIdeal.Gen Idealize.ShloMosaic Idealize.ShloMosaic.TcCoe Idealize.SL.Sem

section entries
variable (A0 : 𝔽 S100000x2) (A1 : 𝔽 S100000x3) (A2 : 𝔽 S200x4) (P C : 𝔽 S100000x4) (D : 𝔽 S200x100000x2)

/-- The first two columns of the joined priors are the centres. -/
theorem centreSize_centre (p : Fin 100000) (k : Fin 2) : centreSize A0 A1 (ix2 p ⟨k.val, by omega⟩) = A0 (ix2 p k) := by
  unfold centreSize
  fin_cases k <;> pointwise

/-- The last two columns of the joined priors are the sides. -/
theorem centreSize_size (p : Fin 100000) (k : Fin 2) :
    centreSize A0 A1 (ix2 p ⟨2 + k.val, by omega⟩) = A1 (ix2 p ⟨k.val, by omega⟩) := by
  unfold centreSize
  fin_cases k <;> pointwise

/-- Half of a side. -/
theorem halfSize_at (p : Fin 100000) (k : Fin 2) :
    halfSize P (ix2 p k) = Ideal.div (P (ix2 p ⟨2 + k.val, by omega⟩)) (Ideal.ofBits FTy.f32 1073741824#32) := by
  unfold halfSize
  fin_cases k <;> pointwise

/-- The low corner is the centre less half of the side. -/
theorem cornersOf_low (p : Fin 100000) (k : Fin 2) :
    cornersOf P (ix2 p ⟨k.val, by omega⟩) = P (ix2 p ⟨k.val, by omega⟩) - halfSize P (ix2 p k) := by
  unfold cornersOf
  fin_cases k <;> pointwise

/-- The high corner is the centre and half of the side. -/
theorem cornersOf_high (p : Fin 100000) (k : Fin 2) :
    cornersOf P (ix2 p ⟨2 + k.val, by omega⟩) = P (ix2 p ⟨k.val, by omega⟩) + halfSize P (ix2 p k) := by
  unfold cornersOf
  fin_cases k <;> pointwise

/-- A side of the common box, zero if the boxes are apart. -/
theorem sides_at (t : Fin 200) (p : Fin 100000) (k : Fin 2) :
    sides C A2 (ix3 t p k) = max (Ideal.ofBits FTy.f32 0#32)
      (min (A2 (ix2 t ⟨2 + k.val, by omega⟩)) (C (ix2 p ⟨2 + k.val, by omega⟩))
        - max (A2 (ix2 t ⟨k.val, by omega⟩)) (C (ix2 p ⟨k.val, by omega⟩))) := by
  unfold sides
  fin_cases k <;> pointwise

/-- The common area is the product of the two sides. -/
theorem common_at (t : Fin 200) (p : Fin 100000) : common D (ix2 t p) = D (ix3 t p 0) * D (ix3 t p 1) := by
  unfold common
  pointwise

/-- A truth's area. -/
theorem areaT_at (t : Fin 200) :
    areaT A2 (ix1 t) = (A2 (ix2 t 2) - A2 (ix2 t 0)) * (A2 (ix2 t 3) - A2 (ix2 t 1)) := by
  unfold areaT
  pointwise

/-- A prior's area. -/
theorem areaP_at (p : Fin 100000) :
    areaP C (ix1 p) = (C (ix2 p 2) - C (ix2 p 0)) * (C (ix2 p 3) - C (ix2 p 1)) := by
  unfold areaP
  pointwise

/-- An overlap is the common area over the area of the union. -/
theorem overlaps_at (t : Fin 200) (p : Fin 100000) : overlaps C A2 (ix2 t p)
    = Ideal.div (common (sides C A2) (ix2 t p)) (areaT A2 (ix1 t) + areaP C (ix1 p) - common (sides C A2) (ix2 t p)) := by
  unfold overlaps
  pointwise

/-- A score is the logistic of the logit, written out. -/
theorem score_at (p : Fin 100000) : score A1 (ix1 p)
    = Ideal.div (Ideal.ofBits FTy.f32 1065353216#32) (Ideal.ofBits FTy.f32 1065353216#32 + Ideal.exp (-(A1 (ix2 p 2)))) := by
  unfold score
  pointwise

end entries

section values
variable {A0 : 𝔽 S100000x2} {A1 : 𝔽 S100000x3} {A2 : 𝔽 S200x4} (b : Data.Bounds A0 A1 A2)
include b

/-- A score as a real number. -/
theorem score_eq (p : Fin 100000) : score A1 (ix1 p) = (Data.sg A1 p.val : EReal) := by
  have e : (1 : ℝ) + Real.exp (-(Data.col A1 2 p.val)) ≠ 0 := by positivity
  rw [score_at, Data.conf_eq b p, Consts.one, ← EReal.coe_neg, Ideal.exp_coe, ← EReal.coe_add, Ideal.div_coe e, ← EReal.coe_mul]
  unfold Data.sg Spec.sig
  rw [if_pos p.isLt, one_mul]

/-- Half of a side as a real number. -/
theorem halfSize_eq (p : Fin 100000) (k : Fin 2) :
    halfSize (centreSize A0 A1) (ix2 p k) = ((Data.col A1 ⟨k.val, by omega⟩ p.val * (1 / 2) : ℝ) : EReal) := by
  rw [halfSize_at, centreSize_size, Consts.two, Ideal.div_coe two_ne_zero, EReal.coe_mul]
  congr 1
  match k with
  | ⟨0, _⟩ => exact Data.w_eq b p
  | ⟨1, _⟩ => exact Data.h_eq b p

/-- The low corner as a real number. -/
theorem low_eq (p : Fin 100000) (k : Fin 2) : cornersOf (centreSize A0 A1) (ix2 p ⟨k.val, by omega⟩)
    = ((Data.col A0 k p.val - Data.col A1 ⟨k.val, by omega⟩ p.val * (1 / 2) : ℝ) : EReal) := by
  rw [cornersOf_low, centreSize_centre, halfSize_eq b, Data.loc_eq b p k, EReal.coe_sub]

/-- The high corner as a real number. -/
theorem high_eq (p : Fin 100000) (k : Fin 2) : cornersOf (centreSize A0 A1) (ix2 p ⟨2 + k.val, by omega⟩)
    = ((Data.col A0 k p.val + Data.col A1 ⟨k.val, by omega⟩ p.val * (1 / 2) : ℝ) : EReal) := by
  rw [cornersOf_high, centreSize_centre, halfSize_eq b, Data.loc_eq b p k, EReal.coe_add]

/-- A side of the common box as a real number. -/
theorem sides_eq (t : Fin 200) (p : Fin 100000) (k : Fin 2) : sides (cornersOf (centreSize A0 A1)) A2 (ix3 t p k)
    = (Spec.shared (Data.corner A2 t ⟨k.val, by omega⟩) (Data.corner A2 t ⟨2 + k.val, by omega⟩) (Data.col A0 k p.val)
        (Data.col A1 ⟨k.val, by omega⟩ p.val) : EReal) := by
  rw [sides_at, low_eq b, high_eq b, Data.corner_eq b, Data.corner_eq b, Consts.zero]
  unfold Spec.shared
  have cmax : ∀ u v : ℝ, ((max u v : ℝ) : EReal) = max (u : EReal) v := fun u v => EReal.coe_strictMono.monotone.map_max
  have cmin : ∀ u v : ℝ, ((min u v : ℝ) : EReal) = min (u : EReal) v := fun u v => EReal.coe_strictMono.monotone.map_min
  rw [max_comm]
  simp only [cmax, cmin, EReal.coe_sub]

/-- The common area as a real number. -/
theorem common_eq (t : Fin 200) (p : Fin 100000) : common (sides (cornersOf (centreSize A0 A1)) A2) (ix2 t p)
    = (Spec.inter (Data.corner A2 t 0) (Data.corner A2 t 1) (Data.corner A2 t 2) (Data.corner A2 t 3) (Data.col A0 0 p.val)
        (Data.col A0 1 p.val) (Data.col A1 0 p.val) (Data.col A1 1 p.val) : EReal) := by
  rw [common_at, sides_eq b, sides_eq b, ← EReal.coe_mul]
  rfl

/-- A prior's area is width times height. -/
theorem areaP_eq (p : Fin 100000) : areaP (cornersOf (centreSize A0 A1)) (ix1 p)
    = ((Data.col A1 0 p.val * Data.col A1 1 p.val : ℝ) : EReal) := by
  have h0 := low_eq b p 0
  have h1 := low_eq b p 1
  have h2 := high_eq b p 0
  have h3 := high_eq b p 1
  rw [areaP_at]
  refine (congrArg₂ (· * ·) (congrArg₂ (· - ·) h2 h0) (congrArg₂ (· - ·) h3 h1)).trans ?_
  rw [← EReal.coe_sub, ← EReal.coe_sub, ← EReal.coe_mul, EReal.coe_eq_coe_iff]
  show (Data.col A0 0 p.val + Data.col A1 0 p.val * (1 / 2) - (Data.col A0 0 p.val - Data.col A1 0 p.val * (1 / 2)))
    * (Data.col A0 1 p.val + Data.col A1 1 p.val * (1 / 2) - (Data.col A0 1 p.val - Data.col A1 1 p.val * (1 / 2))) = _
  ring

/-- A truth's area as a real number. -/
theorem areaT_eq (t : Fin 200) : areaT A2 (ix1 t)
    = (((Data.corner A2 t 2 - Data.corner A2 t 0) * (Data.corner A2 t 3 - Data.corner A2 t 1) : ℝ) : EReal) := by
  rw [areaT_at, Data.corner_eq b, Data.corner_eq b, Data.corner_eq b, Data.corner_eq b, ← EReal.coe_sub, ← EReal.coe_sub, ← EReal.coe_mul]

/-- An entry of the overlaps is the overlap of the two boxes. -/
theorem overlaps_eq (t : Fin 200) (p : Fin 100000) :
    overlaps (cornersOf (centreSize A0 A1)) A2 (ix2 t p) = (Data.ov A0 A1 A2 t p.val : EReal) := by
  rw [overlaps_at, common_eq b, areaT_eq b, areaP_eq b, ← EReal.coe_add, ← EReal.coe_sub]
  refine (Ideal.div_coe (Spec.union_ne (Data.sized b t p.val)) _).trans ?_
  rw [← EReal.coe_mul, mul_one_div]
  rfl

end values

end Cert.ReferenceIdeal.Run
end
-- ==== Proof.RefArg.lean ====
/-
  The arg-max along a row: the reducer keeps the greater value, of two equal ones the lower index, so the fold over the
  row ends at the first place of the row's greatest value.
-/
module

public import proofs.«01_k».proof.Proof.RefRun
public import proofs.«01_k».proof.Proof.Data
public import Idealize.ShloMosaic.Lib.Pointwise
public import Idealize.ShloMosaic.Lib.WordCmp

@[expose] public section
set_option maxRecDepth 16384

noncomputable section
namespace Cert.ReferenceIdeal.Run
open Cert.ReferenceIdeal Cert.ReferenceIdeal.Gen Idealize.ShloMosaic Idealize.ShloMosaic.TcCoe Idealize.SL.Sem
open Idealize.ShloMosaic.WordCmp

/-- A choice by the word of a decided proposition is the choice by the proposition. -/
theorem pick_ofBool {α : Type} (p : Prop) [Decidable p] (x y : α) :
    Scalar.select (BitVec.ofBool (decide p)) x y = if p then x else y := by
  by_cases h : p <;> simp [h, Scalar.select]

/-- The reducer on two pairs. -/
theorem reducer_eq (a b : EReal × BitVec 32) : reducer_argmax_f32_i32 (F := Ideal) a b
    = ((if b.1 < a.1 then a.1 else b.1 : EReal), if b.1 < a.1 ∨ (a.1 = b.1 ∧ a.2.toInt < b.2.toInt) then a.2 else b.2) := by
  unfold reducer_argmax_f32_i32
  dsimp only
  simp only [Ideal.cmpf_def, Ideal.cmp, cmpi_slt_eq, andi_ofBool, ori_ofBool, ← Bool.decide_and, ← Bool.decide_or, ne_eq,
    not_true_eq_false, or_false, pick_ofBool]

section fold
variable {f : ℕ → ℝ} {n i : ℕ} (hi : Spec.First f n i) (hn : n < 2 ^ 31)

/-- The pair of a place. -/
def pairAt (f : ℕ → ℝ) (p : ℕ) : EReal × BitVec 32 := ((f p : EReal), BitVec.ofNat 32 p)

/-- What the fold may hold on the way: the initial pair or a place's. -/
def Held (f : ℕ → ℝ) (n : ℕ) (a : EReal × BitVec 32) : Prop := a.1 = ⊥ ∨ ∃ p, p < n ∧ a = pairAt f p

include hi hn

/-- The best place's pair stays. -/
theorem keep_best (p : ℕ) (hp : p < n) : reducer_argmax_f32_i32 (F := Ideal) (pairAt f i) (pairAt f p) = pairAt f i := by
  rw [reducer_eq]
  unfold pairAt
  dsimp only
  rw [toInt_ofNat_of_lt (by have := hi.lt; omega), toInt_ofNat_of_lt (by omega)]
  simp only [EReal.coe_lt_coe_iff, EReal.coe_eq_coe_iff, Int.ofNat_lt]
  rcases lt_trichotomy i p with h | h | h
  · rcases lt_or_eq_of_le (hi.le p hp) with e | e
    · rw [if_pos e, if_pos (Or.inl e)]
    · rw [if_neg (not_lt.2 e.ge), if_pos (Or.inr ⟨e.symm, h⟩), e]
  · subst h
    rw [ite_self, ite_self]
  · have e := hi.before p h
    rw [if_pos e, if_pos (Or.inl e)]

/-- The best place's pair takes over. -/
theorem take_best (a : EReal × BitVec 32) (ha : Held f n a) : reducer_argmax_f32_i32 (F := Ideal) a (pairAt f i) = pairAt f i := by
  rw [reducer_eq]
  rcases ha with h | ⟨p, hp, rfl⟩
  · unfold pairAt
    dsimp only
    rw [h, if_neg not_lt_bot, if_neg]
    rintro (h' | h')
    · exact not_lt_bot h'
    · exact EReal.bot_ne_coe _ h'.1
  · unfold pairAt
    dsimp only
    rw [toInt_ofNat_of_lt (by omega), toInt_ofNat_of_lt (by have := hi.lt; omega)]
    simp only [EReal.coe_lt_coe_iff, EReal.coe_eq_coe_iff, Int.ofNat_lt]
    have hle := hi.le p hp
    rw [if_neg (not_lt.2 hle), if_neg]
    rintro (h' | h')
    · exact absurd hle (not_le.2 h')
    · exact absurd (hi.before p h'.2) (not_lt.2 h'.1.ge)

omit hi hn in
/-- A step goes from what may be held to what may be held. -/
theorem held_step (a : EReal × BitVec 32) (ha : Held f n a) (p : ℕ) (hp : p < n) :
    Held f n (reducer_argmax_f32_i32 (F := Ideal) a (pairAt f p)) := by
  rw [reducer_eq]
  by_cases h : (pairAt f p).1 < a.1
  · rw [if_pos h, if_pos (Or.inl h)]
    exact ha
  · rw [if_neg h]
    by_cases h' : (pairAt f p).1 < a.1 ∨ (a.1 = (pairAt f p).1 ∧ a.2.toInt < (pairAt f p).2.toInt)
    · rw [if_pos h']
      have e : a.1 = (pairAt f p).1 := (h'.resolve_left h).1
      rw [← e]
      exact ha
    · rw [if_neg h']
      exact Or.inr ⟨p, hp, rfl⟩

omit hi hn in
/-- So does the fold over a list of places' pairs. -/
theorem held_fold (s : List (EReal × BitVec 32)) (hs : ∀ a ∈ s, ∃ p, p < n ∧ a = pairAt f p) (z : EReal × BitVec 32)
    (hz : Held f n z) : Held f n (s.foldl (reducer_argmax_f32_i32 (F := Ideal)) z) := by
  induction s generalizing z with
  | nil => exact hz
  | cons a s ih =>
    obtain ⟨p, hp, rfl⟩ := hs a List.mem_cons_self
    exact ih (fun a ha => hs a (List.mem_cons_of_mem _ ha)) _ (held_step z hz p hp)

/-- The fold over a list of places' pairs that has the best one's. -/
theorem fold_best (L : List (EReal × BitVec 32)) (hL : ∀ a ∈ L, ∃ p, p < n ∧ a = pairAt f p) (hm : pairAt f i ∈ L)
    (z : EReal × BitVec 32) (hz : z.1 = ⊥) : L.foldl (reducer_argmax_f32_i32 (F := Ideal)) z = pairAt f i := by
  obtain ⟨s, t, rfl⟩ := List.append_of_mem hm
  rw [List.foldl_append, List.foldl_cons]
  have h1 := held_fold (f := f) (n := n) s (fun a ha => hL a (List.mem_append_left _ ha)) z (Or.inl hz)
  rw [take_best hi hn _ h1]
  have ht : ∀ a ∈ t, ∃ p, p < n ∧ a = pairAt f p := fun a ha => hL a (List.mem_append_right _ (List.mem_cons_of_mem _ ha))
  clear hL hm h1
  induction t with
  | nil => rfl
  | cons a t ih =>
    obtain ⟨p, hp, rfl⟩ := ht a List.mem_cons_self
    rw [List.foldl_cons, keep_best hi hn p hp]
    exact ih fun a ha => ht a (List.mem_cons_of_mem _ ha)

end fold

/-- The row's fiber: an element is a place's pair. -/
theorem drop_row (v : S200x100000.Idx) (t : Fin 200) : reducesTo_S200x100000_S200_d1.drop v = ix1 t ↔ v 0 = t := by
  have e : ((reducesTo_S200x100000_S200_d1.drop v) (0 : Fin 1) : ℕ) = (v 0).val :=
    Shape.ReducesTo.drop_apply_val_of_eq reducesTo_S200x100000_S200_d1 v 0 0
  constructor
  · intro h
    rw [h] at e
    exact Fin.ext e.symm
  · intro h
    funext a
    match a with
    | ⟨0, _⟩ => exact Fin.ext (e.trans (congrArg Fin.val h))

/-- What a fiber's elements are. -/
theorem of_fiber {α β : Type} {s t : Shape} {axes : List (Fin s.rank)} (x : s.Idx → α) (y : s.Idx → β) (h : s.ReducesTo axes t)
    (j : t.Idx) (a : α × β) (ha : a ∈ Host.argReduceFiber x y h j) : ∃ v, h.drop v = j ∧ a = (x v, y v) := by
  unfold Host.argReduceFiber at ha
  obtain ⟨n, hn, rfl⟩ := List.mem_map.1 ha
  exact ⟨_, of_decide_eq_true (List.mem_filter.1 hn).2, rfl⟩

/-- Every index that drops to `j` gives an element of its fiber. -/
theorem in_fiber {α β : Type} {s t : Shape} {axes : List (Fin s.rank)} (x : s.Idx → α) (y : s.Idx → β) (h : s.ReducesTo axes t)
    (j : t.Idx) (v : s.Idx) (hv : h.drop v = j) : (x v, y v) ∈ Host.argReduceFiber x y h j := by
  unfold Host.argReduceFiber
  refine List.mem_map.2 ⟨s.rowMajor v, List.mem_filter.2 ⟨List.mem_finRange _, ?_⟩, ?_⟩
  · rw [Equiv.symm_apply_apply]
    exact decide_eq_true hv
  · rw [Equiv.symm_apply_apply]

/-- The fold over the fiber of a row of real numbers. -/
theorem fold_row (O : 𝔽 S200x100000) (y : IVec S200x100000 32) (hy : ∀ v, y v = BitVec.ofNat 32 (v 1).val) (t : Fin 200) (f : ℕ → ℝ)
    (i : ℕ) (hi : Spec.First f 100000 i) (hO : ∀ p : Fin 100000, O (ix2 t p) = (f p.val : EReal)) (z : EReal × BitVec 32)
    (hz : z.1 = ⊥) : (Host.argReduceFiber O y reducesTo_S200x100000_S200_d1 (ix1 t)).foldl
      (reducer_argmax_f32_i32 (F := Ideal)) z = pairAt f i := by
  refine fold_best hi (by decide) _ ?_ ?_ z hz
  · intro a ha
    obtain ⟨v, hd, rfl⟩ := of_fiber O y _ _ a ha
    have h0 := (drop_row v t).1 hd
    have hv : v = ix2 t (v 1) := by
      funext a
      match a with
      | ⟨0, _⟩ => exact h0
      | ⟨1, _⟩ => rfl
    refine ⟨(v 1).val, (v 1).isLt, ?_⟩
    rw [hy v]
    refine Prod.ext ?_ rfl
    exact (congrArg O hv).trans (hO (v 1))
  · have hd := (drop_row (ix2 t ⟨i, hi.lt⟩) t).2 rfl
    have hm := in_fiber O y _ _ _ hd
    rw [hy, hO] at hm
    exact hm

/-- The two-operand reduction is the fold over its fiber. -/
theorem arg_fold {β : Type} {s t u : Shape} {axes : List (Fin s.rank)} (g : Ideal .f32 × β → Ideal .f32 × β → Ideal .f32 × β)
    (x : FVec Ideal s .f32) (y : s.Idx → β) (ix : u.Idx → Ideal .f32) (iy : u.Idx → β) (h : s.ReducesTo axes t) (hu : 0 < u.numel)
    (j : t.Idx) : Host.argReduce g x y ix iy h hu j
      = (Host.argReduceFiber x y h j).foldl g (ix (Shape.Idx.first hu), iy (Shape.Idx.first hu)) := by
  rw [Ideal.argReduce_eq_reduce2, Host.reduce2_eq_foldl_fiber]

/-- The initial value is the least. -/
theorem initial_bot (v : S_.Idx) : (constant (F := Ideal) S_ .f32 0xFF800000#32) v = (⊥ : EReal) := Consts.bot

/-- The column's number. -/
theorem iota_col (v : S200x100000.Idx) : iotaInDim S200x100000 32 1 v = BitVec.ofNat 32 (v 1).val := by
  unfold iotaInDim
  rfl

/-- The row's reduction gives the best place's pair. -/
theorem row_pair (O : 𝔽 S200x100000) (t : Fin 200) (f : ℕ → ℝ) (i : ℕ) (hi : Spec.First f 100000 i)
    (hO : ∀ p : Fin 100000, O (ix2 t p) = (f p.val : EReal)) :
    Host.argReduce reducer_argmax_f32_i32 O (iotaInDim S200x100000 32 1) (constant (F := Ideal) S_ .f32 0xFF800000#32)
      (constantI S_ 32 0#32) reducesTo_S200x100000_S200_d1 h_S_ (ix1 t) = pairAt f i := by
  rw [arg_fold]
  exact fold_row O (iotaInDim S200x100000 32 1) iota_col t f i hi hO _ (initial_bot (Shape.Idx.first h_S_))

/-- `rowArg` as a function of both its arguments. -/
theorem rowArg_fun : rowArg = fun O j => (Host.argReduce reducer_argmax_f32_i32 O (iotaInDim S200x100000 32 1)
    (constant (F := Ideal) S_ .f32 0xFF800000#32) (constantI S_ 32 0#32) reducesTo_S200x100000_S200_d1 h_S_ j).2 := rfl

/-- The arg-max of a row of real numbers. -/
theorem rowArg_eq (O : 𝔽 S200x100000) (t : Fin 200) (f : ℕ → ℝ) (i : ℕ) (hi : Spec.First f 100000 i)
    (hO : ∀ p : Fin 100000, O (ix2 t p) = (f p.val : EReal)) : rowArg O (ix1 t) = BitVec.ofNat 32 i := by
  have e := congrArg Prod.snd (row_pair O t f i hi hO)
  rw [rowArg_fun]
  exact e

end Cert.ReferenceIdeal.Run
end
-- ==== Proof.RefSet.lean ====
/-
  The two overwrites: where an update lands, and the entry left there — the last update that lands, or the entry that was there.
-/
module

public import proofs.«01_k».proof.Proof.RefRun
public import proofs.«01_k».proof.Proof.Data
public import Idealize.ShloMosaic.Lib.Pointwise
public import Idealize.ShloMosaic.Lib.WordCmp
public import Idealize.ShloMosaic.Lib.Routing.Ops
public import Idealize.ShloMosaic.Lib.Routing.OpsPair
public import Idealize.ShloMosaic.Lib.Routing.OpsSet

@[expose] public section
set_option maxRecDepth 16384

noncomputable section
namespace Cert.ReferenceIdeal.Run
open Cert.ReferenceIdeal Cert.ReferenceIdeal.Gen Idealize.ShloMosaic Idealize.ShloMosaic.TcCoe Idealize.SL.Sem
open Idealize.ShloMosaic.WordCmp Idealize.ShloMosaic.Routing

/-- Where the places are small words, `places` leaves them. -/
theorem places_eq (b : IVec S200 32) (t : Fin 200) (p : ℕ) (hp : p < 100000) (h : b (ix1 t) = BitVec.ofNat 32 p) :
    places b (ix2 t 0) = BitVec.ofNat 32 p := by
  have e : places b (ix2 t 0) = Scalar.select (IntOp.cmpi .slt (b (ix1 t)) 0#32) (IntOp.addi (b (ix1 t)) 100000#32) (b (ix1 t)) := by
    unfold places
    pointwise
  rw [e, h]
  refine wrap_of_lt _ _ ?_
  rw [toNat_ofNat_of_lt (by omega)]
  omega

/-- Update `u` lands at `p` exactly when its place is `p`. -/
theorem lands (idx : IVec S200x1 32) (u : Fin 200) (p : Fin 100000) :
    scatter_S100000_S200x1_S200_n_0_0_1.resultIdx? (ix1 u) idx = some (ix1 p) ↔ (idx (ix2 u 0)).toInt = (p.val : ℤ) := by
  have hw : scatter_S100000_S200x1_S200_n_0_0_1.window (ix1 u) 0 = 0 := rfl
  have hs : scatter_S100000_S200x1_S200_n_0_0_1.start (ix1 u) idx 0 = (idx (ix2 u 0)).toInt := by
    unfold ScatterDims.start
    rw [dif_pos (show (0 : Fin 1) ∈ scatter_S100000_S200x1_S200_n_0_0_1.scatterDimsToOperandDims from List.mem_singleton.2 rfl)]
    refine congrArg (fun v => (idx v).toInt) ?_
    funext a
    match a with
    | ⟨0, _⟩ => rfl
    | ⟨1, _⟩ => rfl
  refine (resultIdx?_ix1 scatter_S100000_S200x1_S200_n_0_0_1 (ix1 u) idx p).trans ?_
  rw [hs, hw, Nat.cast_zero, add_zero]

/-- A fold that overwrites ends with the last writer's value. -/
theorem fold_last {α : Type} : ∀ {n : ℕ} (P : Fin n → Prop) [DecidablePred P] (f : Fin n → α) (z : α) (t : Fin n), P t →
    (∀ u, t < u → ¬ P u) → (List.finRange n).foldl (fun a k => if P k then f k else a) z = f t := by
  intro n
  induction n with
  | zero => intro P _ f z t; exact t.elim0
  | succ n ih =>
    intro P _ f z t ht hl
    rw [List.finRange_succ_last, List.foldl_append, List.foldl_map, List.foldl_cons, List.foldl_nil]
    rcases Fin.eq_castSucc_or_eq_last t with ⟨s, rfl⟩ | rfl
    · rw [if_neg (hl _ (Fin.castSucc_lt_last s))]
      exact ih (fun k => P k.castSucc) (fun k => f k.castSucc) z s ht fun u hu => hl u.castSucc (Fin.castSucc_lt_castSucc_iff.2 hu)
    · rw [if_pos ht]

section scatters
variable {b : IVec S200 32} {i : Fin 200 → Fin 100000} (hb : ∀ t, b (ix1 t) = BitVec.ofNat 32 (i t).val)
include hb

/-- Where the best priors' updates land. -/
theorem lands_places (u : Fin 200) (p : Fin 100000) :
    scatter_S100000_S200x1_S200_n_0_0_1.resultIdx? (ix1 u) (places b) = some (ix1 p) ↔ i u = p := by
  rw [lands, places_eq b u _ (i u).isLt (hb u), toInt_ofNat_of_lt (lt_trans (i u).isLt (by decide)), Nat.cast_inj, Fin.val_inj]

/-- An entry no update lands at stays. -/
theorem set_other (x : 𝔽 S100000) (v : 𝔽 S200) (p : Fin 100000) (hp : ∀ t, i t ≠ p) :
    Host.scatter scatter_S100000_S200x1_S200_n_0_0_1 (fun _ b => b) x (places b) v (ix1 p) = x (ix1 p) := by
  refine scatter_set_miss _ _ _ _ _ fun k => ?_
  have hk : k = ix1 (k 0) := by
    funext a
    match a with
    | ⟨0, _⟩ => rfl
  rw [hk]
  exact fun h => hp _ ((lands_places hb _ p).1 h)

/-- An entry the last claim of its place writes. -/
theorem set_last (x : 𝔽 S100000) (v : 𝔽 S200) (t : Fin 200) (ht : ∀ u, t < u → i u ≠ i t) :
    Host.scatter scatter_S100000_S200x1_S200_n_0_0_1 (fun _ b => b) x (places b) v (ix1 (i t)) = v (ix1 t) := by
  rw [scatter_at]
  refine (fold_last (fun n => scatter_S100000_S200x1_S200_n_0_0_1.resultIdx? (S200.rowMajor.symm n) (places b) = some (ix1 (i t)))
    (fun n => v (S200.rowMajor.symm n)) _ (t.cast (numel1 200).symm) ?_ ?_).trans ?_
  · show scatter_S100000_S200x1_S200_n_0_0_1.resultIdx? ((shape1 200).rowMajor.symm _) (places b) = _
    rw [symm1]
    exact (lands_places hb t _).2 rfl
  · intro u hu
    show ¬ scatter_S100000_S200x1_S200_n_0_0_1.resultIdx? ((shape1 200).rowMajor.symm _) (places b) = _
    rw [symm1]
    exact fun h => ht _ hu ((lands_places hb _ _).1 h)
  · show v ((shape1 200).rowMajor.symm _) = _
    rw [symm1]
    rfl

end scatters

end Cert.ReferenceIdeal.Run
end
-- ==== Proof.RefForm.lean ====
/-
  The reference's loss, read at its one entry: the quotient of the sums over the truths that are the last to claim their place.
-/
module

public import proofs.«01_k».proof.Proof.RefOv
public import proofs.«01_k».proof.Proof.RefArg
public import proofs.«01_k».proof.Proof.RefSet
public import proofs.«01_k».proof.Proof.Data
public import Idealize.ShloMosaic.Lib.Pointwise

@[expose] public section
set_option maxRecDepth 16384

noncomputable section
namespace Cert.ReferenceIdeal.Run
open Cert.ReferenceIdeal Cert.ReferenceIdeal.Gen Idealize.ShloMosaic Idealize.ShloMosaic.TcCoe Idealize.SL.Sem

section forms
variable (O : 𝔽 S200x100000) (s B X : 𝔽 S100000)

/-- A truth's best overlap is the maximum over the priors. -/
theorem rowMax_at (t : Fin 200) :
    rowMax O (ix1 t) = Finset.fold max (Ideal.ofBits FTy.f32 4286578688#32) (fun p : Fin 100000 => O (ix2 t p)) Finset.univ := by
  unfold rowMax
  pointwise

/-- A prior's best overlap is the maximum over the truths. -/
theorem colMax_at (p : Fin 100000) :
    colMax O (ix1 p) = Finset.fold max (Ideal.ofBits FTy.f32 4286578688#32) (fun t : Fin 200 => O (ix2 t p)) Finset.univ := by
  unfold colMax
  pointwise

/-- The total of an array is the sum of its entries. -/
theorem total_at : total s ix0 = Ideal.ofBits FTy.f32 0#32 + ∑ p : Fin 100000, s (ix1 p) := by
  unfold total
  pointwise

/-- The loss, from the scores, the best overlaps and the filter. -/
theorem lossOf_at : lossOf s B X (ix2 0 0)
    = Ideal.div (-(total (mulf (mulf s X) (Host.log B)) ix0) + Ideal.ofBits FTy.f32 1065353216#32 * total s ix0) (total X ix0) := by
  unfold lossOf
  pointwise

/-- A summand of the loss's first sum. -/
theorem prod_at (p : Fin 100000) : (mulf (mulf s X) (Host.log B)) (ix1 p) = s (ix1 p) * X (ix1 p) * Ideal.log (B (ix1 p)) := by
  pointwise

end forms

end Cert.ReferenceIdeal.Run
end
-- ==== Proof.RefVal.lean ====
/-
  The reference's loss on arrays within the bounds: the quotient of the sums over the truths that are the last to claim their
  place.
-/
module

public import proofs.«01_k».proof.Proof.RefForm
public import Idealize.ShloMosaic.Lib.Pointwise

@[expose] public section
set_option maxRecDepth 16384

noncomputable section
namespace Cert.ReferenceIdeal.Run
open Cert.ReferenceIdeal Cert.ReferenceIdeal.Gen Idealize.ShloMosaic Idealize.ShloMosaic.TcCoe Idealize.SL.Sem

section
variable {A0 : 𝔽 S100000x2} {A1 : 𝔽 S100000x3} {A2 : 𝔽 S200x4} (b : Data.Bounds A0 A1 A2)
variable (O : 𝔽 S200x100000) (hO : ∀ t (p : Fin 100000), O (ix2 t p) = (Data.ov A0 A1 A2 t p.val : EReal))
variable (i : Fin 200 → Fin 100000) (hi : ∀ t, Spec.First (Data.ov A0 A1 A2 t) 100000 (i t).val)

section best
include hO hi

/-- The reference's best prior of a truth is its first best place. -/
theorem args_eq (t : Fin 200) : rowArg O (ix1 t) = BitVec.ofNat 32 (i t).val := rowArg_eq O t _ _ (hi t) (hO t)

/-- The reference's best overlap of a truth is the one at its first best place. -/
theorem rowMax_eq (t : Fin 200) : rowMax O (ix1 t) = (Data.ov A0 A1 A2 t (i t).val : EReal) := by
  rw [rowMax_at, Spec.fold_max_at _ _ (i t), hO]
  · rw [Consts.bot]; exact bot_le
  · intro p
    rw [hO, hO]
    exact EReal.coe_le_coe_iff.2 ((hi t).le p.val p.isLt)

/-- The best overlap at a place, from the last truth to claim it. -/
theorem best_last (t : Fin 200) (ht : ∀ u, t < u → i u ≠ i t) :
    bestOverlap O (ix1 (i t)) = (Data.ov A0 A1 A2 t (i t).val : EReal) := by
  unfold bestOverlap
  exact (set_last (args_eq O hO i hi) _ _ t ht).trans (rowMax_eq O hO i hi t)

/-- The best overlap at a place nobody claims. -/
theorem best_other (p : Fin 100000) (hp : ∀ t, i t ≠ p) : bestOverlap O (ix1 p) = colMax O (ix1 p) := by
  unfold bestOverlap
  exact set_other (args_eq O hO i hi) _ _ p hp

/-- The filter at a claimed place. -/
theorem filter_claimed (t : Fin 200) : filterOf (bestOverlap O) (rowArg O) (ix1 (i t)) = ((5 / 2 : ℝ) : EReal) := by
  obtain ⟨u, hu, hl⟩ := Spec.ex_last i (i t) ⟨t, rfl⟩
  have hl' : ∀ v, u < v → i v ≠ i u := fun v hv => hu ▸ hl v hv
  unfold filterOf
  rw [← hu]
  refine (set_last (args_eq O hO i hi) _ _ u hl').trans ?_
  refine Eq.trans ?_ Consts.twoHalf
  pointwise

include b

/-- No prior overlaps a truth above the threshold. -/
theorem filter_other (p : Fin 100000) (hp : ∀ t, i t ≠ p) : filterOf (bestOverlap O) (rowArg O) (ix1 p) = 0 := by
  unfold filterOf
  refine (set_other (args_eq O hO i hi) _ _ p hp).trans ?_
  have e : ∀ B : 𝔽 S100000, (select (cmpf .ogt B (broadcastInDim S100000 ![] bcast_S_S100000 (constant S_ .f32 0x3ECCCCCD#32)))
      (broadcastInDim S100000 ![] bcast_S_S100000 (constant S_ .f32 0x3F800000#32))
      (broadcastInDim S100000 ![] bcast_S_S100000 (constant S_ .f32 0x00000000#32))) (ix1 p)
      = Scalar.select (FloatOps.cmpf (F := Ideal) .ogt (B (ix1 p)) (Ideal.ofBits FTy.f32 1053609165#32))
        (Ideal.ofBits FTy.f32 1065353216#32) (Ideal.ofBits FTy.f32 0#32) := by
    intro B
    rfl
  obtain ⟨r, hr, er⟩ := Consts.thresh
  have hle : colMax O (ix1 p) ≤ ((1 / 9 : ℝ) : EReal) := by
    rw [colMax_at, Finset.fold_max_le]
    refine ⟨by rw [Consts.bot]; exact bot_le, fun t _ => ?_⟩
    rw [hO]
    exact EReal.coe_le_coe_iff.2 (Data.ov_le b t p.val)
  have hlt : ¬ (r : EReal) < bestOverlap O (ix1 p) := by
    rw [best_other O hO i hi p hp]
    exact not_lt.2 (hle.trans (EReal.coe_le_coe_iff.2 (by linarith)))
  rw [e, er, Ideal.cmpf_def]
  unfold Ideal.cmp
  dsimp only
  rw [pick_ofBool, if_neg hlt, Consts.zero, EReal.coe_zero]

/-- The loss from the overlaps. -/
theorem lossOf_eq : lossOf (score A1) (bestOverlap O) (filterOf (bestOverlap O) (rowArg O)) (ix2 0 0)
    = Ideal.div (-(((5 / 2 : ℝ) : EReal) * ∑ t, (Spec.last i t : EReal) * (Data.sg A1 (i t).val : EReal)
          * Ideal.log (Data.ov A0 A1 A2 t (i t).val : EReal)) + ((∑ p : Fin 100000, Data.sg A1 p.val : ℝ) : EReal))
        (((5 / 2 : ℝ) : EReal) * ∑ t, (Spec.last i t : EReal)) := by
  obtain ⟨h1, h2⟩ := Spec.quotients i (5 / 2) (by norm_num) (fun p : Fin 100000 => Data.sg A1 p.val)
    (fun p => filterOf (bestOverlap O) (rowArg O) (ix1 p)) (fun p => Ideal.log (bestOverlap O (ix1 p)))
    (fun t => Ideal.log (Data.ov A0 A1 A2 t (i t).val : EReal)) (filter_claimed O hO i hi) (filter_other b O hO i hi)
    (fun t ht => congrArg Ideal.log (best_last O hO i hi t ht))
  rw [lossOf_at, total_at, total_at, total_at, Consts.zero, Consts.one, EReal.coe_zero, zero_add, zero_add, zero_add, EReal.coe_one,
    one_mul, Spec.coe_sum, ← h1, ← h2]
  simp only [prod_at, score_eq b]

end best

end

/-- The reference's loss. -/
theorem loss_eq {A0 : 𝔽 S100000x2} {A1 : 𝔽 S100000x3} {A2 : 𝔽 S200x4} (b : Data.Bounds A0 A1 A2) (i : Fin 200 → Fin 100000)
    (hi : ∀ t, Spec.First (Data.ov A0 A1 A2 t) 100000 (i t).val) : loss A0 A1 A2 (ix2 0 0)
    = Ideal.div (-(((5 / 2 : ℝ) : EReal) * ∑ t, (Spec.last i t : EReal) * (Data.sg A1 (i t).val : EReal)
          * Ideal.log (Data.ov A0 A1 A2 t (i t).val : EReal)) + ((∑ p : Fin 100000, Data.sg A1 p.val : ℝ) : EReal))
        (((5 / 2 : ℝ) : EReal) * ∑ t, (Spec.last i t : EReal)) := by
  unfold loss
  exact lossOf_eq b _ (overlaps_eq b) i hi

end Cert.ReferenceIdeal.Run
end
-- ==== Proof.lean ====
/-
  The certificate: the three programs' frames, and the kernel's loss equal to the reference's on arrays in range.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_in_range
public import proofs.«01_k».proof.Proof.KVal
public import proofs.«01_k».proof.Proof.RefVal
public import Idealize.ShloMosaic.Adequacy
public import Idealize.ShloMosaic.Init

@[expose] public section

noncomputable section

namespace Cert.Proof

open Idealize.ShloMosaic Idealize.SL.Sem Cert.Kernel

/-- The reference's frame: its run leaves the arguments and the semaphores as they were. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun _ h => ⟨fun c => (h.1 c).2, h.2⟩) (Cert.ReferenceIdeal.Run.run m g)

/-- On arrays within the bounds the kernel's loss is the reference's. -/
theorem loss_agrees (m : (ℓ : Loc Cert.KernelIdeal.nD Cert.KernelIdeal.τ Cert.KernelIdeal.sig) → Buf (Elt Ideal) ℓ)
    (c : Dev Cert.KernelIdeal.nD)
    (b : Data.Bounds (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))) :
    Cert.ReferenceIdeal.Run.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = Cert.KernelIdeal.Value.G2 m c := by
  obtain ⟨i, hi, e⟩ := Cert.KernelIdeal.Value.result m c b
  have e' := Cert.ReferenceIdeal.Run.loss_eq b i hi
  funext v
  have hv : v = ix2 (0 : Fin 1) (0 : Fin 1) := by
    funext a
    match a with
    | ⟨0, _⟩ => exact Subsingleton.elim (α := Fin 1) _ _
    | ⟨1, _⟩ => exact Subsingleton.elim (α := Fin 1) _ _
  rw [hv]
  refine e'.trans (Eq.trans ?_ e.symm)
  rw [zero_sub]

/-- The five claims together: the frames of the kernel, of the ideal kernel and of the reference, the kernel's
reading over the extended reals, and the equality of the losses. -/
theorem claim : Cert.Claim := ⟨Cert.Kernel.Gen.facts, Cert.KernelIdeal.Gen.facts, Cert.ReferenceIdeal.Gen.facts, Cert.Pre_in_range.Gen.facts, by
  refine ⟨fun m g _ => Cert.Kernel.Gen.frame m g, fun m g _ => Cert.KernelIdeal.Gen.frame m g,
    fun m g _ => Cert.KernelIdeal.Gen.frame m g, fun m g _ => reference_frame m g, fun m g _ => reference_frame m g, trivial, ?_⟩
  intro m g m' g' hpre hagree
  refine ⟨fun c => Cert.KernelIdeal.Value.G2 m c, Cert.KernelIdeal.Value.run m g, ?_⟩
  refine (θ_run _ _ _).mono (fun r h c => ⟨?_, (h.1 c).2⟩) (Cert.ReferenceIdeal.Run.run m' g')
  obtain ⟨h0, h1, h2⟩ := hagree c
  refine (h.1 c).1.trans ?_
  rw [h0, h1, h2]
  exact loss_agrees m c (Data.bounds_of_pre _ _ _ (hpre c))⟩

end Cert.Proof

end
